-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 1024, 8, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨4, ![2, 256, 8, 64]⟩ ⟨4, ![2, 1024, 8, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x8x64 : Shape := ⟨4, ![2, 256, 8, 64]⟩
abbrev S2x8x256x64 : Shape := ⟨4, ![2, 8, 256, 64]⟩
abbrev S_ : Shape := ⟨0, ![]⟩
abbrev S4x2x8x256x64 : Shape := ⟨5, ![4, 2, 8, 256, 64]⟩
abbrev S3 : Shape := ⟨1, ![3]⟩
abbrev S1x2x8x256x64 : Shape := ⟨5, ![1, 2, 8, 256, 64]⟩
abbrev S1 : Shape := ⟨1, ![1]⟩
abbrev S1x1x256x64 : Shape := ⟨4, ![1, 1, 256, 64]⟩
abbrev S256x64 : Shape := ⟨2, ![256, 64]⟩
abbrev S4x1x1x256x64 : Shape := ⟨5, ![4, 1, 1, 256, 64]⟩
abbrev S4x256x64 : Shape := ⟨3, ![4, 256, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x256x64, .f32⟩
  | .hbm, ⟨4, _⟩ => ⟨S_, .f32⟩
  | .hbm, ⟨5, _⟩ => ⟨S2x8x256x64, .f32⟩
  | .hbm, ⟨6, _⟩ => ⟨S2x8x256x64, .f32⟩
  | .hbm, ⟨7, _⟩ => ⟨S2x8x256x64, .bf16⟩
  | .hbm, ⟨8, _⟩ => ⟨S2x8x256x64, .f32⟩
  | .hbm, ⟨9, _⟩ => ⟨S2x8x256x64, .bf16⟩
  | .hbm, ⟨10, _⟩ => ⟨S2x8x256x64, .f32⟩
  | .hbm, ⟨11, _⟩ => ⟨S2x8x256x64, .bf16⟩
  | .hbm, ⟨12, _⟩ => ⟨S2x8x256x64, .f32⟩
  | .hbm, ⟨13, _⟩ => ⟨S2x256x8x64, .f32⟩
  | .local _ .vmem, ⟨0, _⟩ => ⟨S2x8x256x64, .bf16⟩
  | .local _ .vmem, ⟨1, _⟩ => ⟨S2x8x256x64, .bf16⟩
  | .local _ .vmem, ⟨2, _⟩ => ⟨S2x8x256x64, .bf16⟩
  | .local _ .vmem, ⟨3, _⟩ => ⟨S2x8x256x64, .f32⟩
  | .local _ .vmem, ⟨4, _⟩ => ⟨S4x2x8x256x64, .bf16⟩
  | .local _ .vmem, ⟨5, _⟩ => ⟨S4x2x8x256x64, .bf16⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : Index := Scalar.indexCast v2
  let c0_13 : Index := 0#32
  let c0_14 : Index := 0#32
  let c0_15 : Index := 0#32
  let c0_16 : Index := 0#32
  ![v15.toNat, 0, 0, 0, 0]
def k0_off2 (d0 : Dev nD) (c0_i32_25 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.subi v2 c0_i32_25
  let c4_i32_26 : BitVec 32 := 4#32
  let v26 : BitVec 32 := Scalar.addi v25 c4_i32_26
  let c4_i32_27 : BitVec 32 := 4#32
  let v27 : BitVec 32 := Scalar.remsi v26 c4_i32_27
  let c0_i32_32 : BitVec 32 := 0#32
  let c0_i32_33 : BitVec 32 := 0#32
  let c0_i32_34 : BitVec 32 := 0#32
  let c0_i32_35 : BitVec 32 := 0#32
  ![v27.toNat, 0, 0, 0, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_30 : BitVec 32 := 1#32
  let v28 : BitVec 32 := Scalar.muli v4 c1_i32_30
  let v29 : BitVec 32 := Scalar.addi c0_i32_31 v28
  v29.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_42 : BitVec 32 := 1#32
  let v38 : BitVec 32 := Scalar.muli v4 c1_i32_42
  let v39 : BitVec 32 := Scalar.addi c0_i32_43 v38
  v39.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_103 : BitVec 32 := 1#32
  let v79 : BitVec 32 := Scalar.muli v4 c1_i32_103
  let v80 : BitVec 32 := Scalar.addi c0_i32_104 v79
  v80.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_115 : BitVec 32 := 1#32
  let v89 : BitVec 32 := Scalar.muli v4 c1_i32_115
  let v90 : BitVec 32 := Scalar.addi c0_i32_116 v89
  v90.toNat
def k0_dev7 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_176 : BitVec 32 := 1#32
  let v130 : BitVec 32 := Scalar.muli v4 c1_i32_176
  let v131 : BitVec 32 := Scalar.addi c0_i32_177 v130
  v131.toNat
def k0_dev8 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_188 : BitVec 32 := 1#32
  let v140 : BitVec 32 := Scalar.muli v4 c1_i32_188
  let v141 : BitVec 32 := Scalar.addi c0_i32_189 v140
  v141.toNat
@[reducible] def k0_t1_loop : Scf.Loop 32 :=
  let c0_i32_244 : BitVec 32 := 0#32
  let c8_i32 : BitVec 32 := 8#32
  let v178 : BitVec 32 := Scalar.addi c0_i32_244 c8_i32
  let c1_i32_245 : BitVec 32 := 1#32
  ⟨c0_i32_244, v178, c1_i32_245⟩
def k0_off3 (k0_t1 : Fin k0_t1_loop.trips) : Fin 4 → Nat :=
  let c0_251 : Index := 0#32
  let c0_i32_244 : BitVec 32 := 0#32
  let c1_i32_245 : BitVec 32 := 1#32
  let arg10 : BitVec 32 := Scf.iv c0_i32_244 c1_i32_245 k0_t1
  let v180 : Index := Scalar.indexCast arg10
  let c0_252 : Index := 0#32
  let c0_253 : Index := 0#32
  ![0, v180.toNat, 0, 0]
def k0_off4 (k0_t1 : Fin k0_t1_loop.trips) : Fin 5 → Nat :=
  let c0_254 : Index := 0#32
  let c0_255 : Index := 0#32
  let c0_i32_244 : BitVec 32 := 0#32
  let c1_i32_245 : BitVec 32 := 1#32
  let arg10 : BitVec 32 := Scf.iv c0_i32_244 c1_i32_245 k0_t1
  let v183 : Index := Scalar.indexCast arg10
  let c0_256 : Index := 0#32
  let c0_257 : Index := 0#32
  ![0, 0, v183.toNat, 0, 0]
@[reducible] def k0_t2_loop : Scf.Loop 32 :=
  let c0_i32_247 : BitVec 32 := 0#32
  let c8_i32_248 : BitVec 32 := 8#32
  let v179 : BitVec 32 := Scalar.addi c0_i32_247 c8_i32_248
  let c1_i32_249 : BitVec 32 := 1#32
  ⟨c0_i32_247, v179, c1_i32_249⟩
def k0_off5 (k0_t2 : Fin k0_t2_loop.trips) : Fin 4 → Nat :=
  let c1 : Index := 1#32
  let c0_i32_247 : BitVec 32 := 0#32
  let c1_i32_249 : BitVec 32 := 1#32
  let arg10 : BitVec 32 := Scf.iv c0_i32_247 c1_i32_249 k0_t2
  let v180 : Index := Scalar.indexCast arg10
  let c0_251 : Index := 0#32
  let c0_252 : Index := 0#32
  ![1, v180.toNat, 0, 0]
def k0_off6 (k0_t2 : Fin k0_t2_loop.trips) : Fin 5 → Nat :=
  let c0_253 : Index := 0#32
  let c1_254 : Index := 1#32
  let c0_i32_247 : BitVec 32 := 0#32
  let c1_i32_249 : BitVec 32 := 1#32
  let arg10 : BitVec 32 := Scf.iv c0_i32_247 c1_i32_249 k0_t2
  let v183 : Index := Scalar.indexCast arg10
  let c0_255 : Index := 0#32
  let c0_256 : Index := 0#32
  ![0, 1, v183.toNat, 0, 0]
abbrev stage0_0 : Fin 1 → Memref sig .tc .vmem S2x8x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Attention.lean ====
/-
  What the kernel and the reference compute of one query, one head and one column: the columns' values weighted by the
  exponentials of the scores, normalised. Over the extended reals.
-/
module

public import proofs.«01_k».proof.Proof.Gen.KernelIdeal.Skeleton
public import proofs.«01_k».proof.Proof.Gen.ReferenceIdeal.Run
public import Idealize.ShloMosaic.PureOps.Ideal
public import Idealize.ShloMosaic.Lib.Pointwise

@[expose] public section

noncomputable section

namespace Cert.Attention

open Idealize.ShloMosaic

/-- The greatest of the scores. -/
def top (s : Fin 1024 → EReal) : EReal := Finset.univ.fold max (Ideal.ofBits .f32 0xFF800000#32) s

/-- The weight of key `t`. -/
def weight (s : Fin 1024 → EReal) (t : Fin 1024) : EReal :=
  Ideal.div (Ideal.exp (s t - top s)) (∑ u : Fin 1024, Ideal.exp (s u - top s))

/-- The weighted sum of the values. -/
def soft (s v : Fin 1024 → EReal) : EReal := ∑ t : Fin 1024, weight s t * v t

/-- Scaling one factor of every product by `c` scales the sum: `c` is neither negative nor infinite, so this holds of
    infinite terms too. -/
theorem sum_scaled (c : EReal) (h0 : 0 ≤ c) (ht : c ≠ ⊤) (x y : Fin 64 → EReal) :
    ∑ e : Fin 64, (x e * c) * y e = (∑ e : Fin 64, x e * y e) * c := by
  have key : ∀ S : Finset (Fin 64), ∑ e ∈ S, (x e * c) * y e = (∑ e ∈ S, x e * y e) * c := by
    intro S
    induction S using Finset.induction_on with
    | empty => simp
    | insert a S ha ih =>
      rw [Finset.sum_insert ha, Finset.sum_insert ha, ih, EReal.right_distrib_of_nonneg_of_ne_top h0 ht, mul_right_comm]
  exact key _

/-- The scale of the scores, an eighth. -/
def scale : EReal := Ideal.ofBits .f32 0x3E000000#32

theorem scale_eq : scale = ((1 / 8 : ℝ) : EReal) := by
  have h0 : (0x3E000000#32).extractLsb' (8 + 23) 1 = 0#1 := by decide
  have h1 : ((0x3E000000#32).extractLsb' 23 8).toNat = 124 := by decide
  have h2 : ((0x3E000000#32).extractLsb' 0 23).toNat = 0 := by decide
  simp only [scale, Ideal.ofBits, Ideal.ieee]
  rw [h0, h1, h2]
  norm_num

theorem scale_nonneg : 0 ≤ scale := by
  rw [scale_eq]; exact_mod_cast (by norm_num : (0 : ℝ) ≤ 1 / 8)

theorem scale_ne_top : scale ≠ ⊤ := by
  rw [scale_eq]; exact EReal.coe_ne_top _

end Cert.Attention

namespace Cert.KernelIdeal

open Cert.KernelIdeal.Gen Idealize.ShloMosaic Cert.Attention

/-- Key `t` of the 1024 lies in block `t / 256`, at row `t % 256`. -/
def keyBlock (t : Fin 1024) : Fin 4 := ⟨t.val / 256, by omega⟩
def keyRow (t : Fin 1024) : Fin 256 := ⟨t.val % 256, by omega⟩

/-- A head's result at query `r` and column `d`. -/
theorem pay_apply (q : FVec Ideal S1x1x256x64 .bf16) (k v : FVec Ideal S4x1x1x256x64 .bf16) (r : Fin 256) (d : Fin 64) :
    k0_pay1 (F := Ideal) q k v (ix4 0 0 r d)
      = soft (fun t => ∑ e : Fin 64, q (ix4 0 0 r e) * k (ix5 (keyBlock t) 0 0 (keyRow t) e))
          (fun t => v (ix5 (keyBlock t) 0 0 (keyRow t) d)) := by
  pointwise [k0_pay1]
  rfl

end Cert.KernelIdeal

namespace Cert.ReferenceIdeal

open Cert.ReferenceIdeal.Gen Idealize.ShloMosaic Cert.Attention

/-- The reference's result of whole arrays, as its run leaves it. -/
def ref (q k v : FVec Ideal S2x1024x8x64 .f32) : FVec Ideal S2x1024x8x64 .f32 :=
  have s : FVec Ideal S2x8x1024x1024 .f32 := mulf (Host.dotGeneral dot_S2x1024x8x64_S2x1024x8x64_S2x8x1024x1024_3_3_1_1_02_02 none q k)
    (broadcastInDim S2x8x1024x1024 ![] bcast_S_S2x8x1024x1024 (constant S_ .f32 0x3E000000#32))
  have p : FVec Ideal S2x8x1024x1024 .f32 := Host.exp (subf s (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduce FloatOps.maximumf s (constant S_ .f32 0xFF800000#32) reducesTo_S2x8x1024x1024_S2x8x1024_d3 h_S_))))
  have w : FVec Ideal S2x8x1024x1024 .f32 := Host.divf p (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduceAdd p (constant S_ .f32 0x00000000#32) reducesTo_S2x8x1024x1024_S2x8x1024_d3 h_S_)))
  transpose S2x1024x8x64 [0, 3, 1, 2] (Host.dotGeneral dot_S2x1024x8x64_S2x8x1024x1024_S2x8x64x1024_1_3_3_2_02_01 none v w)
    transposes_S2x8x64x1024_S2x1024x8x64_0_3_1_2

/-- It is the attention of every query, head and column, the scores scaled. -/
theorem ref_apply (q k v : FVec Ideal S2x1024x8x64 .f32) (b : Fin 2) (r : Fin 1024) (h : Fin 8) (d : Fin 64) :
    ref q k v (ix4 b r h d)
      = soft (fun t => (∑ e : Fin 64, q (ix4 b r h e) * k (ix4 b t h e)) * scale) (fun t => v (ix4 b t h d)) := by
  pointwise [ref]
  exact Finset.sum_congr rfl fun t _ => mul_comm _ _

end Cert.ReferenceIdeal

end
-- ==== Proof.KernelIdealProto.lean ====
/-
  The ring all-gather of the kernel's keys and values: the ring, the slots of the two gathering buffers, the semaphore
  cells, and the schedule of what each semaphore credit hands over. Everything is stated over the contents
  `X b z` that slot `z` of buffer `b` is to hold (buffer `false` the keys, `true` the values), and generic in the floats.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.Regions
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: the pipeline's copy and the ring's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The ring of four devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
/-- The slot device `c` forwards at hop `h`: the block that started `h` devices back. -/
def sl (c : Dev nD) (h : ℕ) : Dev nD := ⟨(c.val + 4 - h % 4) % 4, Nat.mod_lt _ (by decide)⟩

theorem prv_nxt (c : Dev nD) : prv (nxt c) = c := by revert c; decide
theorem nxt_prv (c : Dev nD) : nxt (prv c) = c := by revert c; decide
theorem sl_zero (c : Dev nD) : sl c 0 = c := by revert c; decide
theorem sl_nxt (c : Dev nD) (h : Fin 3) : sl (nxt c) (h.val + 1) = sl c h.val := by revert c h; decide
theorem sl_prv (c : Dev nD) (h : Fin 3) : sl (prv c) h.val = sl c (h.val + 1) := by revert c h; decide

def ring : Dev nD ≃ Dev nD := ⟨nxt, prv, prv_nxt, nxt_prv⟩
def ringBack : Dev nD ≃ Dev nD := ⟨prv, nxt, nxt_prv, prv_nxt⟩

/-! ## The slots -/

theorem slot_inb (z : Dev nD) : ∀ a, (![z.val, 0, 0, 0, 0] : Fin 5 → ℕ) a + S1x2x8x256x64.size a ≤ S4x2x8x256x64.size a := by
  revert z; decide

/-- Slot `z` of a gathering buffer, as a rectangle of it; -/
abbrev slotR (z : Dev nD) : Rect S4x2x8x256x64 := Rect.unit (s := S4x2x8x256x64) ![z.val, 0, 0, 0, 0] S1x2x8x256x64.size (slot_inb z)
/-- as a memref of the shape of one block. -/
abbrev slotM (M : Memref sig .tc .vmem S4x2x8x256x64 .bf16) (z : Dev nD) : Memref sig .tc .vmem S2x8x256x64 .bf16 :=
  (M.slice (slotR z) (fun _ => rfl)).squeeze S2x8x256x64 squeezes_S1x2x8x256x64_S2x8x256x64

/-- The two gathering buffers: keys, values. -/
abbrev bufM : Bool → Memref sig .tc .vmem S4x2x8x256x64 .bf16
  | false => Memref.whole cc0_scratch0
  | true => Memref.whole cc0_scratch1

/-- Device `d`'s slot `z` of buffer `b`, held at `Y`. -/
abbrev slotOwn (d : Dev nD) (b : Bool) (z : Dev nD) (Y : S2x8x256x64.Idx → Elt F .bf16) : sProp 𝕄 :=
  ownsTc d (slotM (bufM b) z) fullShare Y

/-! ## The semaphore cells -/

/-- A transfer: which buffer, which hop. -/
abbrev Tix : Type := Bool × Fin 3

theorem ds_lt (b d : Bool) (h : Fin 3) : 4 + 6 * b.toNat + 3 * d.toNat + h.val < 16 := by revert b d h; decide

/-- The semaphore of transfer `(b, h)`: `d = false` the sender's, `d = true` the receiver's. -/
abbrev ds (b d : Bool) (h : Fin 3) : DmaSem sig := ⟨4 + 6 * b.toNat + 3 * d.toNat + h.val, ds_lt b d h⟩

abbrev barS : Sem sig := (SemArray.scalar (sig.barrier 0 rfl) : Sems sig S_).sem

abbrev barCell (c : Dev nD) : GSem nD τ sig := ((c : Thread nD τ), .reg barS)
abbrev xCell (c : Dev nD) (d : Bool) (x : Tix) : GSem nD τ sig := ((c : Thread nD τ), .dma (ds x.1 d x.2))

/-- The kernel's own transfer semaphores, indexed. -/
abbrev osem : Bool × Tix → SemLoc sig := fun k => .dma (ds k.2.1 k.1 k.2.2)

/-- Reading buffer, direction and hop back from a semaphore's number. -/
def dB (q : DmaSem sig) : Bool := decide (10 ≤ q.val)
def dD (q : DmaSem sig) : Bool := decide ((q.val - 4) / 3 % 2 = 1)
def dH (q : DmaSem sig) : ℕ := (q.val - 4) % 3
theorem dB_ds (b d : Bool) (h : Fin 3) : dB (ds b d h) = b := by revert b d h; decide
theorem dD_ds (b d : Bool) (h : Fin 3) : dD (ds b d h) = d := by revert b d h; decide
theorem dH_ds (b d : Bool) (h : Fin 3) : dH (ds b d h) = h.val := by revert b d h; decide

/-- What a transfer of one slot credits. -/
abbrev N : ℕ := (slotM (bufM false) 0).view.dmaCredit
theorem N_pos : 0 < N := View.dmaCredit_pos _ (by decide)
theorem amount_slot (b : Bool) (z : Dev nD) : (slotM (bufM b) z).view.dmaCredit = N := by cases b <;> rfl

/-! ## What the credits hand over -/

/-- One of the slots `d` gives its predecessor at the barrier, and that the round of the cell its transfer credits has begun. -/
def giveOne (d : Dev nD) (x : Tix) : sProp 𝕄 :=
  iprop((∃ Y : S2x8x256x64.Idx → Elt F .bf16, slotOwn d x.1 (sl d (x.2.val + 1)) Y) ∗ reached ER (xCell d true x) 0)

/-- Paid to device `c`'s barrier by its successor: the successor's six slots that `c` will write. -/
def barPay (c : Dev nD) : sProp 𝕄 := bigSep Finset.univ fun x : Tix => giveOne (nxt c) x

variable (X : Bool → Dev nD → S2x8x256x64.Idx → Elt F .bf16)

/-- Paid by a transfer: to the sender its slot back, to the receiver its slot holding the block. -/
def xPay (c : Dev nD) (b d : Bool) (h : ℕ) : sProp 𝕄 :=
  slotOwn c b (sl c (h + d.toNat)) (X b (sl c (h + d.toNat)))

/-- One round on every cell: on a barrier two duties of one unit, `true` the successor's, `false` the predecessor's; on a
    transfer's cell one duty of the block's credit. -/
def Rd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ u := match g.2 with
    | .reg _ => if u then barPay g.1.1 else iprop(emp)
    | .dma q => xPay X g.1.1 (dB q) (dD q) (dH q)
  amount_pos g _ _ _ := by
    rcases g with ⟨_, _ | _⟩
    · exact Nat.one_pos
    · exact N_pos

instance Rd_payload_storable (g : GSem nD τ sig) (r : ℕ) (u : Bool) :
    BI.Storable (upEmb : UEmb _ 𝕄) ((Rd (F := F) X).payload g r u) := by
  rcases g with ⟨t, _ | q⟩
  · show BI.Storable upEmb (if u then barPay t.1 else iprop(emp))
    unfold barPay giveOne
    split <;> infer_instance
  · show BI.Storable upEmb (xPay X t.1 (dB q) (dD q) (dH q))
    unfold xPay
    infer_instance

section Sched

variable (c : Dev nD)

omit [FloatOps F] in
theorem duties_bar : (Rd (F := F) X).duties (barCell c) 0 = Finset.univ := rfl
omit [FloatOps F] in
theorem duties_x (d : Bool) (x : Tix) : (Rd (F := F) X).duties (xCell c d x) 0 = {false} := rfl
omit [FloatOps F] in
theorem duties_later (g : GSem nD τ sig) : ∀ r, 1 ≤ r → (Rd (F := F) X).duties g r = ∅ :=
  fun r hr => by dsimp only [Rd]; exact if_neg (by omega)
omit [FloatOps F] in
theorem amount_bar (u : Bool) : (Rd (F := F) X).amount (barCell c) 0 u = 1 := rfl
omit [FloatOps F] in
theorem amount_x (d : Bool) (x : Tix) (u : Bool) : (Rd (F := F) X).amount (xCell c d x) 0 u = N := rfl
omit [FloatOps F] in
theorem expect_bar : (Rd (F := F) X).expect (barCell c) 0 = 2 := by
  unfold Schedule.expect Schedule.amountOf; rw [duties_bar]; rfl
omit [FloatOps F] in
theorem expect_x (d : Bool) (x : Tix) : (Rd (F := F) X).expect (xCell c d x) 0 = N := by
  unfold Schedule.expect Schedule.amountOf; rw [duties_x, Finset.sum_singleton, amount_x]
omit [FloatOps F] in
theorem payload_bar_true : (Rd (F := F) X).payload (barCell c) 0 true = barPay c := rfl
omit [FloatOps F] in
theorem payload_bar_false : (Rd (F := F) X).payload (barCell c) 0 false = iprop(emp) := rfl
omit [FloatOps F] in
theorem payload_x (d : Bool) (x : Tix) (u : Bool) : (Rd (F := F) X).payload (xCell c d x) 0 u = xPay X c x.1 d x.2.val := by
  show xPay X c (dB (ds x.1 d x.2)) (dD (ds x.1 d x.2)) (dH (ds x.1 d x.2)) = _
  rw [dB_ds, dD_ds, dH_ds]
omit [FloatOps F] in
theorem rest_bar : bigSep ((Rd (F := F) X).duties (barCell c) 0 \ ∅) (fun u => (Rd (F := F) X).payload (barCell c) 0 u) ⊢ barPay c := by
  rw [Finset.sdiff_empty, duties_bar]
  exact bigSep_elim (Finset.mem_univ true)
omit [FloatOps F] in
theorem rest_x (d : Bool) (x : Tix) :
    bigSep ((Rd (F := F) X).duties (xCell c d x) 0 \ ∅) (fun u => (Rd (F := F) X).payload (xCell c d x) 0 u) = xPay X c x.1 d x.2.val := by
  rw [Finset.sdiff_empty, duties_x, bigSep_singleton, payload_x]

end Sched

/-! ## What each device owes, and the levels -/

/-- The transfers in the order the kernel starts them. -/
abbrev order : List Tix := [(false, 0), (true, 0), (false, 1), (true, 1), (false, 2), (true, 2)]

/-- The credits of the receivers' cells still owed when the transfers `l` are to come. -/
def owedFrom (l : List Tix) (c : Dev nD) : CellTallies nD τ sig Unit :=
  l.foldr (fun x O => O + tallyAt (xCell (nxt c) true x) () N) 0

theorem owedFrom_cons (x : Tix) (l : List Tix) (c : Dev nD) :
    owedFrom (x :: l) c = owedFrom l c + tallyAt (xCell (nxt c) true x) () N := rfl
theorem owedFrom_nil (c : Dev nD) : owedFrom [] c = 0 := rfl

/-- Owed at launch: all transfers' receivers, and a unit to each neighbour's barrier. -/
def O₁ (c : Dev nD) : CellTallies nD τ sig Unit := owedFrom order c + tallyAt (barCell (nxt c)) () 1
def O₀ (c : Dev nD) : CellTallies nD τ sig Unit := O₁ c + tallyAt (barCell (prv c)) () 1

def L (g : GSem nD τ sig) : Finset Unit := if g.1.2 = .tc then {()} else ∅
/-- Barriers at 1, the receiver's cell of hop `h` at `2 + h`, every sender's cell (and all others) at 0. -/
def lv (g : GSem nD τ sig) (_ : Unit) : ℕ :=
  match g.2 with
  | .reg _ => 1
  | .dma q => if 4 ≤ q.val ∧ dD q = true then 2 + dH q else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

theorem lv_recv (c : Dev nD) (x : Tix) : lv (xCell c true x) () = 2 + x.2.val := by
  show (if 4 ≤ (ds x.1 true x.2).val ∧ dD (ds x.1 true x.2) = true then 2 + dH (ds x.1 true x.2) else 0) = _
  rw [dD_ds, dH_ds, if_pos ⟨by show 4 ≤ 4 + 6 * x.1.toNat + 3 * 1 + x.2.val; omega, rfl⟩]
theorem lv_send (c : Dev nD) (x : Tix) : lv (xCell c false x) () = 0 := by
  show (if 4 ≤ (ds x.1 false x.2).val ∧ dD (ds x.1 false x.2) = true then _ else 0) = _
  rw [dD_ds, if_neg (fun h => by cases h.2)]
theorem lv_bar (c : Dev nD) : lv (barCell c) () = 1 := rfl

theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem owedFrom_pos {l : List Tix} {c : Dev nD} {g : GSem nD τ sig} {u : Unit} (h : 0 < owedFrom l c g u) :
    ∃ x ∈ l, g = xCell (nxt c) true x := by
  induction l with
  | nil => exact absurd h (Nat.lt_irrefl 0)
  | cons y l ih =>
    rw [owedFrom_cons, Pi.add_apply, Finsupp.add_apply] at h
    rcases Nat.add_pos_iff_pos_or_pos.mp h with h | h
    · obtain ⟨x, hx, rfl⟩ := ih h
      exact ⟨x, List.mem_cons_of_mem _ hx, rfl⟩
    · exact ⟨y, List.mem_cons_self .., tally_pos h⟩

theorem O₀_pos {c : Dev nD} {g : GSem nD τ sig} {u : Unit} (h : 0 < O₀ c g u) :
    (∃ x, g = xCell (nxt c) true x) ∨ g = barCell (nxt c) ∨ g = barCell (prv c) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨x, -, hx⟩ := owedFrom_pos h; exact .inl ⟨x, hx⟩
    · exact .inr (.inl (tally_pos h))
  · exact .inr (.inr (tally_pos h))

/-- A device may wait on a cell of its own whose level lies below the hops of all transfers it has still to start. -/
theorem mayWait_owed (c : Dev nD) (sm : SemLoc sig) (l : List Tix)
    (hl : ∀ x ∈ l, lv ((c : Thread nD τ), sm) () < 2 + x.2.val) :
    (levAts L lv : sProp 𝕄) ⊢ MayWait (c : Thread nD τ) sm () (owedFrom l c) :=
  MayOwe.of_cut (L := L) (lev := lv) (lv ((c : Thread nD τ), sm) ()) (fun p hp => by rw [Finset.mem_singleton.mp hp]; exact mem_L c _ _)
    (fun g u hg => by obtain ⟨x, -, rfl⟩ := owedFrom_pos hg; exact mem_L _ _ _)
    (fun p hp => by rw [Finset.mem_singleton.mp hp])
    (fun g u hg => by obtain ⟨x, hx, rfl⟩ := owedFrom_pos hg; rw [lv_recv]; exact hl x hx)

end Cert.KernelIdealProof

end
-- ==== Proof.KernelIdealSteps.lean ====
/-
  One rule per kind of step of the ring: reading and writing a slot, starting a transfer, waiting for one; and how the
  four slots of a gathering buffer are taken apart and put together.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots of a buffer -/

/-- A block's index, put behind a slot's number; -/
abbrev inSlot (z : Fin 4) (j : S2x8x256x64.Idx) : S4x2x8x256x64.Idx :=
  show (⟨5, Matrix.vecCons 4 ![2, 8, 256, 64]⟩ : Shape).Idx from Fin.cons z j
/-- and the index within the block. -/
abbrev offSlot (i : S4x2x8x256x64.Idx) : S2x8x256x64.Idx := fun a : Fin 4 => i a.succ
/-- The same for an array of one block. -/
abbrev inOne (j : S2x8x256x64.Idx) : S1x2x8x256x64.Idx :=
  show (⟨5, Matrix.vecCons 1 ![2, 8, 256, 64]⟩ : Shape).Idx from Fin.cons ⟨0, Nat.one_pos⟩ j
abbrev offOne (i : S1x2x8x256x64.Idx) : S2x8x256x64.Idx := fun a : Fin 4 => i a.succ

theorem inOne_offOne (i : S1x2x8x256x64.Idx) : inOne (offOne i) = i := by
  funext a
  refine Fin.cases ?_ (fun a => rfl) a
  exact Subsingleton.elim (α := Fin 1) _ _
theorem inSlot_offSlot (i : S4x2x8x256x64.Idx) : inSlot (i 0) (offSlot i) = i := by
  funext a
  exact Fin.cases rfl (fun a => rfl) a

theorem slot_emb (z : Dev nD) (i : S1x2x8x256x64.Idx) : (slotR z).emb i = inSlot z (offOne i) := by
  funext a
  refine Fin.ext ?_
  rw [Rect.emb_apply]
  refine Fin.cases ?_ (fun a => ?_) a
  · have h : (i 0).val = 0 := by have := (i 0).isLt; exact Nat.lt_one_iff.mp this
    show z.val + 1 * (i 0).val = z.val
    rw [h]; rfl
  · show (![0, 0, 0, 0] : Fin 4 → ℕ) a + 1 * (i a.succ).val = (i a.succ).val
    have h : (![0, 0, 0, 0] : Fin 4 → ℕ) a = 0 := by revert a; decide
    rw [h, Nat.one_mul, Nat.zero_add]

theorem mem_slotR (z : Dev nD) (i : S4x2x8x256x64.Idx) : i ∈ (slotR z).set ↔ i 0 = z := by
  rw [← Rect.map_emb_univ, Finset.mem_map]
  constructor
  · rintro ⟨j, -, rfl⟩; rw [slot_emb]; rfl
  · rintro rfl
    refine ⟨inOne (offSlot i), Finset.mem_univ _, ?_⟩
    exact (slot_emb (i 0) _).trans (inSlot_offSlot i)

theorem slots_disjoint (z z' : Dev nD) (h : z ≠ z') : Disjoint (slotR z).set (slotR z').set :=
  Finset.disjoint_left.mpr fun i hi hi' => h (((mem_slotR z i).mp hi).symm.trans ((mem_slotR z' i).mp hi'))
theorem slots_cover : (Finset.univ : Finset (Dev nD)).biUnion (fun z => (slotR z).set) = Finset.univ :=
  Finset.eq_univ_iff_forall.mpr fun i => Finset.mem_biUnion.mpr ⟨i 0, Finset.mem_univ _, (mem_slotR _ i).mpr rfl⟩

/-- A slot read through its squeezed view. -/
theorem read_slot (M : Memref sig .tc .vmem S4x2x8x256x64 .bf16) (z : Dev nD) (f : M.view.ty.Contents (Elt F)) (j : S2x8x256x64.Idx) :
    (slotM M z).view.read (Elt F) f j = (M.slice (slotR z) (fun _ => rfl)).view.read (Elt F) f (inOne j) := by
  show (M.slice (slotR z) (fun _ => rfl)).view.read (Elt F) f (Shape.reshapeEquiv _ j) = _
  exact congrArg _ (Shape.reshapeEquiv_cons_one (n := 4) (d := ![2, 8, 256, 64]) _ j)

/-- A slot is the rectangle of the buffer, the leading coordinate dropped. -/
theorem slotOwn_eq (d : Dev nD) (b : Bool) (z : Dev nD) (Y : S2x8x256x64.Idx → Elt F .bf16) :
    (slotOwn d b z Y : sProp 𝕄) = owns (d : Thread nD τ) ((bufM b).slice (slotR z) (fun _ => rfl)) fullShare (fun i => Y (offOne i)) := by
  have key : ∀ f : (bufM b).view.ty.Contents (Elt F), (slotM (bufM b) z).view.read (Elt F) f = Y
      ↔ ((bufM b).slice (slotR z) (fun _ => rfl)).view.read (Elt F) f = fun i => Y (offOne i) := by
    intro f
    constructor
    · rintro rfl
      funext i
      rw [read_slot, inOne_offOne]
    · intro h
      funext j
      rw [read_slot, h]
      rfl
  have hset : (slotM (bufM b) z).view.set = ((bufM b).slice (slotR z) (fun _ => rfl)).view.set := View.set_reshape _ _
  unfold slotOwn ownsTc owns
  refine BI.equiv_iff.mp ⟨?_, ?_⟩
  · show _ ⊢ (_ : sProp 𝕄)
    iintro ⟨%f, %hf, H⟩
    iexists f
    isplitr; · ipureintro; exact (key f).mp hf
    rw [← hset]; iexact H
  · show _ ⊢ (_ : sProp 𝕄)
    iintro ⟨%f, %hf, H⟩
    iexists f
    isplitr; · ipureintro; exact (key f).mpr hf
    rw [hset]; iexact H

/-- A whole gathering buffer comes apart into its slots, -/
theorem slots_split (d : Dev nD) (b : Bool) (f : S4x2x8x256x64.Idx → Elt F .bf16) :
    (ownsTc d (bufM b) fullShare f : sProp 𝕄) ⊢ bigSep Finset.univ fun z : Dev nD => slotOwn d b z fun j => f (inSlot z j) := by
  refine (owns_rects (d : Thread nD τ) (bufM b) fullShare slotR (fun _ _ => rfl) slots_disjoint slots_cover f).trans ?_
  refine Entails.of_eq (BI.bigSep_congr fun z _ => ?_)
  rw [slotOwn_eq]
  congr 1
  funext i
  rw [slot_emb]

/-- and the slots make up the buffer. -/
theorem slots_join (d : Dev nD) (b : Bool) (Y : Dev nD → S2x8x256x64.Idx → Elt F .bf16) :
    (bigSep Finset.univ fun z : Dev nD => slotOwn d b z (Y z)) ⊢ (ownsTc d (bufM b) fullShare (fun i => Y (i 0) (offSlot i)) : sProp 𝕄) := by
  refine BIBase.Entails.trans ?_ (owns_of_rects (d : Thread nD τ) (bufM b) fullShare slotR (fun _ _ => rfl) slots_disjoint slots_cover _)
  refine Entails.of_eq (BI.bigSep_congr fun z _ => ?_)
  rw [slotOwn_eq]
  congr 1
  funext i
  rw [slot_emb]
  rfl

/-! ## Storing a slot, and loading one whose contents are not used -/

section Steps

variable (c : Dev nD) {α : Type}

theorem wp_store_slot (b : Bool) (z : Dev nD) (off : Fin 5 → ℕ) (hoff : off = ![z.val, 0, 0, 0, 0])
    (inb : ∀ a, off a + S1x2x8x256x64.size a ≤ S4x2x8x256x64.size a) (w : S1x2x8x256x64.Idx → Elt F .bf16)
    {hx} {hm} {k : PUnit → Prog (TpuEff nD τ sig (Elt F) Λ₀ .tc) α} {Q : α → sProp 𝕄} (Y : S2x8x256x64.Idx → Elt F .bf16) :
    (slotOwn c b z Y : sProp 𝕄)
      ⊢ iprop((slotOwn c b z (fun j => w (inOne j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (bufM b) (Rect.unit (s := S4x2x8x256x64) off S1x2x8x256x64.size inb) w Finset.univ hx hm) k) Q) := by
  subst hoff
  rw [slotOwn_eq, slotOwn_eq]
  unfold owns
  iintro ⟨%f, -, H⟩ Hk
  iapply (wp_store 𝒱₀ (c : Thread nD τ) none Set.univ (m := bufM b) (r := slotR z) (w := w) (f := f) subset_rfl) $$ [H]
  · iexact H
  iintro H
  iapply Hk
  iexists _
  isplitr
  · ipureintro
    refine (View.read_write_univ (v := (bufM b).access (slotR z)) f w).trans ?_
    funext i
    exact congrArg w (inOne_offOne i).symm
  iexact H

theorem wp_load_slot (b : Bool) (z : Dev nD) (off : Fin 5 → ℕ) (hoff : off = ![z.val, 0, 0, 0, 0])
    (inb : ∀ a, off a + S1x2x8x256x64.size a ≤ S4x2x8x256x64.size a)
    {hl} {k : (S1x2x8x256x64.Idx → Elt F .bf16) → Prog (TpuEff nD τ sig (Elt F) Λ₀ .tc) α} {Q : α → sProp 𝕄} (Y : S2x8x256x64.Idx → Elt F .bf16) :
    (slotOwn c b z Y : sProp 𝕄)
      ⊢ iprop((∀ v, slotOwn c b z Y -∗ wp frame (wpE (defs₀ (F := F)) 𝒱₀ (c : Thread nD τ) none) Set.univ (k v) Q)
          -∗ wp frame (wpE (defs₀ (F := F)) 𝒱₀ (c : Thread nD τ) none) Set.univ
              (.op (.load (bufM b) (Rect.unit (s := S4x2x8x256x64) off S1x2x8x256x64.size inb).toLoadRect hl) k) Q) := by
  subst hoff
  rw [slotOwn_eq]
  unfold owns
  iintro ⟨%f, %hf, H⟩ Hk
  iapply (wp_load_rect 𝒱₀ (c : Thread nD τ) none Set.univ (m := bufM b) (r := slotR z) (f := f) subset_rfl) $$ [H]
  · iexact H
  iintro H
  iapply Hk
  iexists f
  isplitr; · ipureintro; exact hf
  iexact H

/-! ## Transfers -/

variable (X : Bool → Dev nD → S2x8x256x64.Idx → Elt F .bf16)

/-- Every cell of the protocol: a device's barrier, and its transfers' cells. -/
abbrev CIx : Type := Dev nD × Option (Bool × Tix)
def cellAt : CIx → GSem nD τ sig
  | (c, none) => barCell c
  | (c, some k) => xCell c k.1 k.2

/-- All the cells' invariants, at their names. -/
def records (K : CIx → ℕ) : sProp 𝕄 := bigSep Finset.univ fun p : CIx => cellInv ER (Rd X) (K p) (cellAt p)

instance records_persistent (K : CIx → ℕ) : Persistent (records X K) := by unfold records; infer_instance

theorem records_at (K : CIx → ℕ) (p : CIx) : records X K ⊢ cellInv ER (Rd X) (K p) (cellAt p) :=
  bigSep_elim (Finset.mem_univ p)

/-- What a device owes, whatever it has waited on. -/
def owesX (O : CellTallies nD τ sig Unit) : sProp 𝕄 := iprop(∃ W, owes (c : Thread nD τ) O W)

/-- Starting transfer `(b, h)`: slot `sl c h` goes to the successor's slot of the same number. -/
theorem wp_send_slot (K : CIx → ℕ) (n : Dev nD) (hn : n = nxt c) (b : Bool) (h : Fin 3) (l : List Tix)
    (s : Memref sig .tc .vmem S2x8x256x64 .bf16) (hs : s = slotM (bufM b) (sl c h.val))
    (qs qr : DmaSem sig) (hqs : qs = ds b false h) (hqr : qr = ds b true h)
    {hsc : (s : Memref sig (Dev.tc n : Thread nD τ).2.kind .vmem S2x8x256x64 .bf16).view.ref.isScScratch = false}
    {hsrc : s.view.WordExact} {hdst : s.view.WordExact}
    {hsem : DmaTarget.Typed .vmem (.dma qr) (.remote (Dev.tc n : Thread nD τ) s (.dma qs) hsc)}
    {k : PUnit → Prog (TpuEff nD τ sig (Elt F) Λ₀ .tc) α} {Q : α → sProp 𝕄} :
    iprop(records X K ∗ slotOwn c b (sl c h.val) (X b (sl c h.val)) ∗ giveOne (nxt c) (b, h)
        ∗ owesX c (owedFrom ((b, h) :: l) c)
        ∗ (dutyTok ER (xCell c false (b, h)) 0 false ∗ reached ER (xCell c false (b, h)) 0)
        ∗ dutyTok ER (xCell (nxt c) true (b, h)) 0 false)
      ⊢ iprop(((cred (tallyAt (xCell c false (b, h)) () N) ∗ owesX c (owedFrom l c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma s (.remote (Dev.tc n : Thread nD τ) s (.dma qs) hsc) (.dma qr) hsrc hdst hsem) k) Q) := by
  subst hn
  subst hs
  subst hqs
  subst hqr
  unfold giveOne owesX
  rw [sl_nxt c h]
  unfold slotOwn ownsTc owns
  iintro ⟨#HR, ⟨%f, %hf, Hs⟩, ⟨⟨%Y, %g, -, Hd⟩, #Hrr⟩, ⟨%W, HO⟩, ⟨Hts, #Hrs⟩, Htr⟩ Hk
  ihave #HI1 := (records_at X K (c, some (false, (b, h)))) $$ HR
  ihave #HI2 := (records_at X K (nxt c, some (true, (b, h)))) $$ HR
  iapply (Rounds.wp_send_pointsTo 𝒱₀ ER (Rd X) (c : Thread nD τ) none (c' := (nxt c : Thread nD τ))
      (src := slotM (bufM b) (sl c h.val)) (dst := slotM (bufM b) (sl c h.val)) (sS := .dma (ds b false h)) (sem := .dma (ds b true h))
      (κ₁ := K (c, some (false, (b, h)))) (κ₂ := K (nxt c, some (true, (b, h))))
      (r₁ := 0) (r₂ := 0) (d₁ := false) (d₂ := false) (fs := f) (fd := g) (q := fullShare)
      (by rw [duties_x X c false (b, h)]; exact Finset.mem_singleton_self _)
      (by rw [duties_x X (nxt c) true (b, h)]; exact Finset.mem_singleton_self _)
      () () N (amount_slot b _) (amount_x X c false (b, h) false) (amount_x X (nxt c) true (b, h) false)
      (owedFrom l c) (owedFrom_cons (b, h) l c) (W := W)
      (by
        rw [payload_x X c false (b, h)]
        unfold xPay
        show _ ⊢ slotOwn c b (sl c (h.val + 0)) (X b (sl c (h.val + 0)))
        rw [Nat.add_zero, ← hf]
        exact owns_intro _ _ _ _)
      (by
        rw [payload_x X (nxt c) true (b, h)]
        unfold xPay
        show _ ⊢ slotOwn (nxt c) b (sl (nxt c) (h.val + 1)) (X b (sl (nxt c) (h.val + 1)))
        rw [sl_nxt c h, ← hf]
        refine (owns_intro (nxt c : Thread nD τ) (slotM (bufM b) (sl c h.val)) _ _).trans ?_
        rw [View.read_write_univ]))
    $$ [Hs Hd HO Hts Htr]
  · isplitr; · iexact HI1
    isplitr; · iexact HI2
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- Waiting for transfer `(b, h)`, as its sender (`d = false`) or receiver. -/
theorem wp_wait_x (K : CIx → ℕ) (b d : Bool) (h : Fin 3) (l : List Tix)
    (hl : ∀ x ∈ l, lv (xCell c d (b, h)) () < 2 + x.2.val)
    (q : DmaSem sig) (hq : q = ds b d h) (s : Memref sig .tc .vmem S2x8x256x64 .bf16) (z : Dev nD) (hs : s = slotM (bufM b) z)
    {hsrc : s.view.WordExact} {hdst : s.view.WordExact}
    {k : PUnit → Prog (TpuEff nD τ sig (Elt F) Λ₀ .tc) α} {Q : α → sProp 𝕄} :
    iprop(records X K ∗ levAts L lv ∗ cred (tallyAt (xCell c d (b, h)) () N) ∗ owesX c (owedFrom l c) ∗ atPos ER (xCell c d (b, h)) 0 ∅ 0)
      ⊢ iprop(((owesX c (owedFrom l c) ∗ atPos ER (xCell c d (b, h)) (0 + 1) ∅ 0 ∗ xPay X c b d h.val)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q s s hsrc hdst) k) Q) := by
  subst hq
  subst hs
  unfold owesX
  iintro ⟨#HR, #Hlev, Hc, ⟨%W, HO⟩, Hat⟩ Hk
  ihave #HI := (records_at X K (c, some (d, (b, h)))) $$ HR
  iapply (Rounds.wp_wait_rest_token 𝒱₀ ER (Rd X) (c : Thread nD τ) none (κ := K (c, some (d, (b, h)))) (sm := .dma (ds b d h)) (k' := N)
      (fun K' => (wpE_waitDma2_eq 𝒱₀ (c : Thread nD τ) none Set.univ K').trans (by rw [amount_slot b z])) (Set.mem_univ _) ()
      (O := owedFrom l c) (W := W) (R := 0) (m := 0) (T := ∅)
      (by rw [Nat.zero_add]; exact (expect_x X c d (b, h)).symm)) $$ [Hc HO Hat]
  · isplitr; · iexact HI
    isplitl [Hc]; · iexact Hc
    isplitl [HO]; · iexact HO
    isplitr; · iapply (mayWait_owed c (.dma (ds b d h)) l hl); iexact Hlev
    iexact Hat
  iintro ⟨HO, Hat, -, Hpay⟩
  ihave Hp := (Entails.of_eq (rest_x X c d (b, h))) $$ Hpay
  iapply Hk
  isplitl [HO]; · iexists _; iexact HO
  isplitl [Hat]; · iexact Hat
  iexact Hp

end Steps

end Cert.KernelIdealProof

end
-- ==== Proof.KernelIdealLoops.lean ====
/-
  The two loops of the kernel: once the blocks are gathered, trip `h` of loop `b` computes head `h` of batch `b` — one
  row of the result from the matching rows of the three arrays read.
-/
module

public import proofs.«01_k».proof.Proof.KernelIdealSteps
public import proofs.«01_k».proof.Proof.Gen.KernelIdeal.Loops
public import Idealize.ShloMosaic.Lib.ValueLayout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## One row of the result -/

/-- The block of an array of a batch and a head, -/
def row4 {e : EltTy} (f : S2x8x256x64.Idx → Elt F e) (b : Fin 2) (h : Fin 8) : S1x1x256x64.Idx → Elt F e :=
  fun j => f (ix4 b h (j 2) (j 3))
/-- and the four blocks of a gathered array. -/
def row5 {e : EltTy} (f : S4x2x8x256x64.Idx → Elt F e) (b : Fin 2) (h : Fin 8) : S4x1x1x256x64.Idx → Elt F e :=
  fun j => f (ix5 (j 0) b h (j 3) (j 4))

/-- The result of a batch and a head. -/
def rowOut (q : S2x8x256x64.Idx → Elt F .bf16) (k v : S4x2x8x256x64.Idx → Elt F .bf16) (b : Fin 2) (h : Fin 8) :
    S1x1x256x64.Idx → Elt F .f32 := k0_pay1 (row4 q b h) (row5 k b h) (row5 v b h)

/-- The whole result. -/
def outOf (q : S2x8x256x64.Idx → Elt F .bf16) (k v : S4x2x8x256x64.Idx → Elt F .bf16) : S2x8x256x64.Idx → Elt F .f32 :=
  fun i => rowOut q k v (i 0) (i 1) (ix4 0 0 (i 2) (i 3))

/-- The result with the first `n` rows computed. -/
def outTo (q : S2x8x256x64.Idx → Elt F .bf16) (k v : S4x2x8x256x64.Idx → Elt F .bf16) (f : S2x8x256x64.Idx → Elt F .f32) (n : ℕ) :
    S2x8x256x64.Idx → Elt F .f32 :=
  fun i => if 8 * (i 0).val + (i 1).val < n then outOf q k v i else f i

theorem outTo_zero (q : S2x8x256x64.Idx → Elt F .bf16) (k v : S4x2x8x256x64.Idx → Elt F .bf16) (f : S2x8x256x64.Idx → Elt F .f32) :
    outTo q k v f 0 = f := by
  funext i; exact if_neg (Nat.not_lt_zero _)

theorem outTo_all (q : S2x8x256x64.Idx → Elt F .bf16) (k v : S4x2x8x256x64.Idx → Elt F .bf16) (f : S2x8x256x64.Idx → Elt F .f32) :
    outTo q k v f 16 = outOf q k v := by
  funext i
  have h0 : (i 0).val < 2 := (i 0).isLt
  have h1 : (i 1).val < 8 := (i 1).isLt
  exact if_pos (by omega)

/-! ## What a trip reads and writes -/

theorem read_row4 {e : EltTy} (m : Memref sig .tc .vmem S2x8x256x64 e)
    (f : m.view.ty.Contents (Elt F)) (b : Fin 2) (h : Fin 8) (off : Fin 4 → ℕ) (hoff : off = ![b.val, h.val, 0, 0])
    (inb : ∀ a, off a + S1x1x256x64.size a ≤ S2x8x256x64.size a) :
    m.view.readAt (Elt F) (Rect.unit (s := S2x8x256x64) off S1x1x256x64.size inb).toLoadRect f = row4 (m.view.read (Elt F) f) b h := by
  subst hoff
  funext j
  refine congrArg (m.view.read (Elt F) f) ?_
  funext a
  refine Fin.ext ?_
  have h0 : (j 0).val = 0 := Nat.lt_one_iff.mp (j 0).isLt
  have h1 : (j 1).val = 0 := Nat.lt_one_iff.mp (j 1).isLt
  match a with
  | ⟨0, _⟩ => show b.val + 1 * (j 0).val = b.val; omega
  | ⟨1, _⟩ => show h.val + 1 * (j 1).val = h.val; omega
  | ⟨2, _⟩ => show 0 + 1 * (j 2).val = (j 2).val; omega
  | ⟨3, _⟩ => show 0 + 1 * (j 3).val = (j 3).val; omega

theorem read_row5 {e : EltTy} (m : Memref sig .tc .vmem S4x2x8x256x64 e)
    (f : m.view.ty.Contents (Elt F)) (b : Fin 2) (h : Fin 8) (off : Fin 5 → ℕ) (hoff : off = ![0, b.val, h.val, 0, 0])
    (inb : ∀ a, off a + S4x1x1x256x64.size a ≤ S4x2x8x256x64.size a) :
    m.view.readAt (Elt F) (Rect.unit (s := S4x2x8x256x64) off S4x1x1x256x64.size inb).toLoadRect f = row5 (m.view.read (Elt F) f) b h := by
  subst hoff
  funext j
  refine congrArg (m.view.read (Elt F) f) ?_
  funext a
  refine Fin.ext ?_
  have h1 : (j 1).val = 0 := Nat.lt_one_iff.mp (j 1).isLt
  have h2 : (j 2).val = 0 := Nat.lt_one_iff.mp (j 2).isLt
  match a with
  | ⟨0, _⟩ => show 0 + 1 * (j 0).val = (j 0).val; omega
  | ⟨1, _⟩ => show b.val + 1 * (j 1).val = b.val; omega
  | ⟨2, _⟩ => show h.val + 1 * (j 2).val = h.val; omega
  | ⟨3, _⟩ => show 0 + 1 * (j 3).val = (j 3).val; omega
  | ⟨4, _⟩ => show 0 + 1 * (j 4).val = (j 4).val; omega

/-- Storing the row of batch `b` and head `h` computes one more row. -/
theorem write_row (q : S2x8x256x64.Idx → Elt F .bf16) (k v : S4x2x8x256x64.Idx → Elt F .bf16) (f : S2x8x256x64.Idx → Elt F .f32)
    (b : Fin 2) (h : Fin 8) (off : Fin 4 → ℕ) (hoff : off = ![b.val, h.val, 0, 0])
    (inb : ∀ a, off a + S1x1x256x64.size a ≤ S2x8x256x64.size a) (n : ℕ) (hn : n = 8 * b.val + h.val) :
    ((Memref.whole cc0_stg3_0 : Memref sig .tc .vmem S2x8x256x64 .f32).access (Rect.unit (s := S2x8x256x64) off S1x1x256x64.size inb)).write
        (Elt F) (outTo q k v f n) (rowOut q k v b h) Finset.univ
      = outTo q k v f (n + 1) := by
  subst hoff
  subst hn
  funext i
  by_cases hi : i 0 = b ∧ i 1 = h
  · have e : ((Memref.whole cc0_stg3_0 : Memref sig .tc .vmem S2x8x256x64 .f32).access
        (Rect.unit (s := S2x8x256x64) ![b.val, h.val, 0, 0] S1x1x256x64.size inb)).emb (ix4 (0 : Fin 1) (0 : Fin 1) (i 2) (i 3)) = i := by
      funext a
      refine Fin.ext ?_
      match a with
      | ⟨0, _⟩ => show b.val + 1 * 0 = (i 0).val; rw [hi.1]; rfl
      | ⟨1, _⟩ => show h.val + 1 * 0 = (i 1).val; rw [hi.2]; rfl
      | ⟨2, _⟩ => show 0 + 1 * (i 2).val = (i 2).val; omega
      | ⟨3, _⟩ => show 0 + 1 * (i 3).val = (i 3).val; omega
    have hw := View.write_emb_of_mem (v := (Memref.whole cc0_stg3_0 : Memref sig .tc .vmem S2x8x256x64 .f32).access
      (Rect.unit (s := S2x8x256x64) ![b.val, h.val, 0, 0] S1x1x256x64.size inb)) (outTo q k v f (8 * b.val + h.val)) (rowOut q k v b h)
      (Finset.mem_univ (ix4 (0 : Fin 1) (0 : Fin 1) (i 2) (i 3)))
    refine (congrArg _ e.symm).trans (hw.trans ?_)
    unfold outTo
    rw [if_pos (by rw [hi.1, hi.2]; exact Nat.lt_succ_self _)]
    unfold outOf
    rw [hi.1, hi.2]
    rfl
  · refine (View.write_of_not_mem _ _ _ ?_).trans ?_
    · intro hm
      obtain ⟨x, -, hx⟩ := Finset.mem_map.mp hm
      have hx0 : (x 0).val = 0 := Nat.lt_one_iff.mp (x 0).isLt
      have hx1 : (x 1).val = 0 := Nat.lt_one_iff.mp (x 1).isLt
      refine hi ⟨?_, ?_⟩
      · rw [← hx]
        refine Fin.ext ?_
        show b.val + 1 * (x 0).val = b.val
        omega
      · rw [← hx]
        refine Fin.ext ?_
        show h.val + 1 * (x 1).val = h.val
        omega
    · unfold outTo
      have h0 : (i 0).val < 2 := (i 0).isLt
      have h1 : (i 1).val < 8 := (i 1).isLt
      have hb := b.isLt
      have hh := h.isLt
      have hne : ¬ ((i 0).val = b.val ∧ (i 1).val = h.val) := fun hc => hi ⟨Fin.ext hc.1, Fin.ext hc.2⟩
      by_cases hlt : 8 * (i 0).val + (i 1).val < 8 * b.val + h.val
      · rw [if_pos hlt, if_pos (by omega)]
      · rw [if_neg hlt, if_neg (by omega)]

/-! ## The loops -/

/-- A whole memref of device `c` at contents `f`. -/
abbrev ptw {sh : Shape} {e : EltTy} (c : Dev nD) (m : Memref sig .tc .vmem sh e) (f : m.view.ty.Contents (Elt F)) : sProp 𝕄 :=
  m.view.loc (c : Thread nD τ) ↦[m.view.set]{fullShare} f

abbrev qM : Memref sig .tc .vmem S2x8x256x64 .bf16 := Memref.whole cc0_stg0_0
abbrev kM : Memref sig .tc .vmem S2x8x256x64 .bf16 := Memref.whole cc0_stg1_0
abbrev vM : Memref sig .tc .vmem S2x8x256x64 .bf16 := Memref.whole cc0_stg2_0
abbrev oM : Memref sig .tc .vmem S2x8x256x64 .f32 := Memref.whole cc0_stg3_0

section Loops

variable (c : Dev nD) (q : S2x8x256x64.Idx → Elt F .bf16) (k v : S4x2x8x256x64.Idx → Elt F .bf16) (f : S2x8x256x64.Idx → Elt F .f32)

/-- Before a trip: the three arrays read, and the result with the first `n` rows computed. -/
def loopAt (n : ℕ) : sProp 𝕄 :=
  iprop(ptw c qM q ∗ ptw c (bufM false) k ∗ ptw c (bufM true) v ∗ ptw c oM (outTo q k v f n))

/-- One trip, at whatever offsets it computes. -/
theorem trip (b : Fin 2) (h : Fin 8) (n : ℕ) (hn : n = 8 * b.val + h.val)
    (off : Fin 4 → ℕ) (hoff : off = ![b.val, h.val, 0, 0]) (inb : ∀ a, off a + S1x1x256x64.size a ≤ S2x8x256x64.size a)
    (off' : Fin 5 → ℕ) (hoff' : off' = ![0, b.val, h.val, 0, 0]) (inb' : ∀ a, off' a + S4x1x1x256x64.size a ≤ S4x2x8x256x64.size a)
    {hl₁ hl₂ hl₃ hl₄ hx hm} :
    loopAt c q k v f n ⊢ wp frame (wpE (defs₀ (F := F)) 𝒱₀ (c : Thread nD τ) none) Set.univ
      (Prog.op (.load qM (Rect.unit (s := S2x8x256x64) off S1x1x256x64.size inb).toLoadRect hl₁) fun w₁ =>
        Prog.op (.load (bufM false) (Rect.unit (s := S4x2x8x256x64) off' S4x1x1x256x64.size inb').toLoadRect hl₂) fun w₂ =>
        Prog.op (.load (bufM true) (Rect.unit (s := S4x2x8x256x64) off' S4x1x1x256x64.size inb').toLoadRect hl₃) fun w₃ =>
        Prog.op (.load oM (Rect.unit (s := S2x8x256x64) off S1x1x256x64.size inb).toLoadRect hl₄) fun _ =>
        Prog.op (.store oM (Rect.unit (s := S2x8x256x64) off S1x1x256x64.size inb) (k0_pay1 w₁ w₂ w₃) Finset.univ hx hm) fun _ =>
        (Prog.ret () : Prog (TpuEff nD τ sig (Elt F) Λ₀ .tc) Unit)) fun _ => loopAt c q k v f (n + 1) := by
  have hS : (oM.access (Rect.unit (s := S2x8x256x64) off S1x1x256x64.size inb)).setOn Finset.univ ⊆ oM.view.set :=
    View.set_slice_subset oM.view _
  unfold loopAt
  iintro ⟨Hq, Hk, Hv, Ho⟩
  iapply (wp_load 𝒱₀ (c : Thread nD τ) none Set.univ (m := qM) (View.setOn_subset_set _ _)) $$ Hq
  iintro Hq
  iapply (wp_load 𝒱₀ (c : Thread nD τ) none Set.univ (m := bufM false) (View.setOn_subset_set _ _)) $$ Hk
  iintro Hk
  iapply (wp_load 𝒱₀ (c : Thread nD τ) none Set.univ (m := bufM true) (View.setOn_subset_set _ _)) $$ Hv
  iintro Hv
  iapply (wp_load 𝒱₀ (c : Thread nD τ) none Set.univ (m := oM) (View.setOn_subset_set _ _)) $$ Ho
  iintro Ho
  iapply (wp_store 𝒱₀ (c : Thread nD τ) none Set.univ (m := oM) hS) $$ Ho
  iintro Ho
  rw [read_row4 qM q b h off hoff, read_row5 (bufM false) k b h off' hoff', read_row5 (bufM true) v b h off' hoff']
  rw [wp_ret]
  imodintro
  isplitl [Hq]; · iexact Hq
  isplitl [Hk]; · iexact Hk
  isplitl [Hv]; · iexact Hv
  rw [← write_row q k v f b h off hoff inb n hn]
  iexact Ho

/-- Both loops, in place of any contents of the result's buffer. -/
theorem loops_run {α : Type} {Q : α → sProp 𝕄} {kk : PUnit → Prog (TpuEff nD τ sig (Elt F) Λ₀ .tc) α}
    (arg1 harg1 arg2 harg2 harg0 harg3 harg4 harg5 arg6 arg7 arg8 arg9) :
    loopAt c q k v f 0
      ⊢ iprop((loopAt c q k v f 16 -∗ wp frame (wpE (defs₀ (F := F)) 𝒱₀ (c : Thread nD τ) none) Set.univ (kk ⟨⟩) Q)
        -∗ wp frame (wpE (defs₀ (F := F)) 𝒱₀ (c : Thread nD τ) none) Set.univ
          ((Scf.Loop.for k0_t1_loop k0_t1_ok ⟨⟩ (k0_t1_body (F := F) qM harg0 arg1 harg1 arg2 harg2 oM harg3 (bufM false) harg4 (bufM true) harg5 arg6 arg7 arg8 arg9)) >>= fun _ =>
            (Scf.Loop.for k0_t2_loop k0_t2_ok ⟨⟩ (k0_t2_body (F := F) qM harg0 arg1 harg1 arg2 harg2 oM harg3 (bufM false) harg4 (bufM true) harg5 arg6 arg7 arg8 arg9)) >>= kk) Q) := by
  iintro H Hk
  iapply (Scf.wp_for_bind frame (wpE (defs₀ (F := F)) 𝒱₀ (c : Thread nD τ) none) Set.univ k0_t1_loop.lb k0_t1_loop.ub k0_t1_loop.st k0_t1_ok ⟨⟩ _
      (fun n _ => loopAt c q k v f n) (fun t _ => by
        unfold k0_t1_body
        simp only [Prog.lift, Prog.bind_op, Prog.bind_ret, Prog.pure_eq_ret]
        have ht : t.val < 8 := Nat.lt_of_lt_of_le t.isLt k0_t1_abs.2.1
        exact trip c q k v f 0 ⟨t.val, ht⟩ t.val (by simp) _ (k0_off3_eq t) _ _ (k0_off4_eq t) _)) $$ H
  iintro %_ H
  iapply (Scf.wp_for_bind frame (wpE (defs₀ (F := F)) 𝒱₀ (c : Thread nD τ) none) Set.univ k0_t2_loop.lb k0_t2_loop.ub k0_t2_loop.st k0_t2_ok ⟨⟩ _
      (fun n _ => loopAt c q k v f (8 + n)) (fun t _ => by
        unfold k0_t2_body
        simp only [Prog.lift, Prog.bind_op, Prog.bind_ret, Prog.pure_eq_ret]
        have ht : t.val < 8 := Nat.lt_of_lt_of_le t.isLt k0_t2_abs.2.1
        exact trip c q k v f 1 ⟨t.val, ht⟩ (8 + t.val) (by simp) _ (k0_off5_eq t) _ _ (k0_off6_eq t) _)) $$ [H]
  · have e : Scf.trips k0_t1_loop.lb k0_t1_loop.ub k0_t1_loop.st = 8 := by decide +kernel
    rw [e]; iexact H
  iintro %_ H
  iapply Hk
  have e : Scf.trips k0_t2_loop.lb k0_t2_loop.ub k0_t2_loop.st = 8 := by decide +kernel
  rw [e]; iexact H

end Loops

end Cert.KernelIdealProof

end
-- ==== Proof.KernelIdealBody.lean ====
/-
  The kernel's body on one device: it greets its neighbours, stores its own block of keys and values in its slot of the
  gathering buffers, sends round the ring the block it holds three times, and computes the attention of its queries over
  the four blocks it then has.
-/
module

public import proofs.«01_k».proof.Proof.KernelIdealLoops

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Taking families apart -/

set_option backward.proofsInPublic true in
def slots (c : Dev nD) : Fin 4 ≃ Dev nD :=
  ⟨fun h => sl c h.val, fun z => sl c z.val, by revert c; decide, by revert c; decide⟩

omit [FloatOps F] in
theorem four (c : Dev nD) (Φ : Dev nD → sProp 𝕄) :
    bigSep Finset.univ Φ = iprop(Φ (sl c 0) ∗ Φ (sl c 1) ∗ Φ (sl c 2) ∗ Φ (sl c 3)) := by
  rw [bigSep_univ_equiv (slots c) Φ]
  exact bigSep_W0 _

omit [FloatOps F] in
theorem six (Φ : Tix → sProp 𝕄) :
    bigSep Finset.univ Φ = iprop(Φ (false, 0) ∗ Φ (true, 0) ∗ Φ (false, 1) ∗ Φ (true, 1) ∗ Φ (false, 2) ∗ Φ (true, 2)) :=
  bigSep_univ_eq_bigSepL order (by decide) (by decide) Φ

omit [FloatOps F] in
theorem twelve (Φ : Bool × Tix → sProp 𝕄) :
    bigSep Finset.univ Φ = iprop(bigSep Finset.univ (fun x => Φ (false, x)) ∗ bigSep Finset.univ (fun x => Φ (true, x))) := by
  rw [bigSep_univ_prod]
  exact bigSep_univ_eq_bigSepL [false, true] (by decide) (by decide) _

/-! ## The body's side conditions -/

theorem slot_at (b : Bool) (c : Dev nD) (h : Fin 3)
    (inb : ∀ a, k0_off2 c (BitVec.ofNat 32 h.val) a + S1x2x8x256x64.size a ≤ S4x2x8x256x64.size a) :
    ((bufM b).slice (Rect.unit (s := S4x2x8x256x64) (k0_off2 c (BitVec.ofNat 32 h.val)) S1x2x8x256x64.size inb) (fun _ => rfl)).squeeze
        S2x8x256x64 squeezes_S1x2x8x256x64_S2x8x256x64 = slotM (bufM b) (sl c h.val) := by
  have e : k0_off2 c (BitVec.ofNat 32 h.val) = ![(sl c h.val).val, 0, 0, 0, 0] := by
    rw [k0_off2_eq c h]
    have h3 : h.val % 4 = h.val := Nat.mod_eq_of_lt (by omega)
    show _ = ![(c.val + 4 - h.val % 4) % 4, 0, 0, 0, 0]
    rw [h3]
  revert inb
  rw [e]
  intro inb
  rfl

theorem own_off (c : Dev nD) : k0_off1 c = ![(sl c 0).val, 0, 0, 0, 0] := by
  rw [sl_zero]; exact k0_off1_eq c

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

theorem below (c : Dev nD) (b d : Bool) (h : Fin 3) (l : List Tix) (hl : ∀ x ∈ l, h.val < x.2.val) :
    ∀ x ∈ l, lv (xCell c d (b, h)) () < 2 + x.2.val := fun x hx => by
  have := hl x hx
  cases d
  · rw [lv_send]; omega
  · rw [lv_recv]
    show 2 + h.val < 2 + x.2.val
    omega

omit [FloatOps F] in
theorem zero4 : (![0, 0, 0, 0] : Fin 4 → ℕ) = fun _ => 0 := by decide

omit [FloatOps F] in
/-- A whole buffer, through its memref and by its location. -/
theorem pt_whole (c : Dev nD) (b : Ref sig .tc) (f : b.ty.Contents (Elt F)) :
    ((Memref.whole b).view.loc (c : Thread nD τ) ↦[(Memref.whole b).view.set]{fullShare} f : sProp 𝕄) = (((c : Thread nD τ).loc b) ↦{fullShare} f) := by
  rw [View.set_whole]

/-- A gathering buffer, whole. -/
abbrev buf (c : Dev nD) (b : Bool) (f : S4x2x8x256x64.Idx → Elt F .bf16) : sProp 𝕄 := ownsTc c (bufM b) fullShare f

omit [FloatOps F] in
theorem buf_raw0 (c : Dev nD) (f : S4x2x8x256x64.Idx → Elt F .bf16) :
    (buf c false f : sProp 𝕄) = (((c : Thread nD τ).loc cc0_scratch0) ↦{fullShare} f) := owns_whole (c : Thread nD τ) cc0_scratch0 fullShare f
omit [FloatOps F] in
theorem buf_raw1 (c : Dev nD) (f : S4x2x8x256x64.Idx → Elt F .bf16) :
    (buf c true f : sProp 𝕄) = (((c : Thread nD τ).loc cc0_scratch1) ↦{fullShare} f) := owns_whole (c : Thread nD τ) cc0_scratch1 fullShare f
omit [FloatOps F] in
theorem buf_pt0 (c : Dev nD) (f : S4x2x8x256x64.Idx → Elt F .bf16) : (buf c false f : sProp 𝕄) = ptw c (bufM false) f :=
  (buf_raw0 c f).trans (pt_whole c cc0_scratch0 f).symm
omit [FloatOps F] in
theorem buf_pt1 (c : Dev nD) (f : S4x2x8x256x64.Idx → Elt F .bf16) : (buf c true f : sProp 𝕄) = ptw c (bufM true) f :=
  (buf_raw1 c f).trans (pt_whole c cc0_scratch1 f).symm

/-! ## Before and after -/

/-- What device `c` brings to transfer `x`: the positions and marks of its two cells, the two duties it pays, and the credit
    of the block it receives. -/
def hop (c : Dev nD) (x : Tix) : sProp 𝕄 :=
  iprop((atPos ER (xCell c false x) 0 ∅ 0 ∗ atPos ER (xCell c true x) 0 ∅ 0)
    ∗ (reached ER (xCell c false x) 0 ∗ reached ER (xCell c true x) 0)
    ∗ (dutyTok ER (xCell c false x) 0 false ∗ dutyTok ER (xCell (nxt c) true x) 0 false)
    ∗ cred (tallyAt (xCell c true x) () N))

/-- What it brings to the barrier. -/
def meet (c : Dev nD) : sProp 𝕄 :=
  iprop(atPos ER (barCell c) 0 ∅ 0 ∗ cred (tallyAt (barCell c) () 2)
    ∗ (reached ER (barCell (prv c)) 0 ∗ reached ER (barCell (nxt c)) 0)
    ∗ dutyTok ER (barCell (prv c)) 0 true ∗ dutyTok ER (barCell (nxt c)) 0 false)

variable (X : Bool → Dev nD → S2x8x256x64.Idx → Elt F .bf16)

/-- The gathered array of four blocks. -/
def gath (b : Bool) : S4x2x8x256x64.Idx → Elt F .bf16 := fun i => X b (i 0) (offSlot i)

/-- All counters back at zero. -/
def closed (c : Dev nD) : sProp 𝕄 :=
  iprop((bigSep Finset.univ fun k : Bool × Tix => semVal (xCell c k.1 k.2) 0) ∗ semVal (barCell c) 0)

theorem close_cell (K : CIx → ℕ) (c : Dev nD) (d : Bool) (x : Tix) :
    iprop(records X K ∗ atPos ER (xCell c d x) (0 + 1) ∅ 0) ⊢ (|={Set.univ}=> semVal (xCell c d x) 0 : sProp 𝕄) := by
  iintro ⟨#HR, H⟩
  ihave #HI := (records_at X K (c, some (d, x))) $$ HR
  iapply (Rounds.cell_close ER (Rd X) (Set.mem_univ (K (c, some (d, x)))) id (duties_later X (xCell c d x)))
  isplitr; · iexact HI
  iexact H

theorem close_bar (K : CIx → ℕ) (c : Dev nD) :
    iprop(records X K ∗ atPos ER (barCell c) (0 + 1) ∅ 0) ⊢ (|={Set.univ}=> semVal (barCell c) 0 : sProp 𝕄) := by
  iintro ⟨#HR, H⟩
  ihave #HI := (records_at X K (c, none)) $$ HR
  iapply (Rounds.cell_close ER (Rd X) (Set.mem_univ (K (c, none))) id (duties_later X (barCell c)))
  isplitr; · iexact HI
  iexact H

omit [FloatOps F] in
theorem pay_send (c : Dev nD) (b : Bool) (h : Fin 3) :
    (xPay X c b false h.val : sProp 𝕄) ⊢ slotOwn c b (sl c h.val) (X b (sl c h.val)) := BIBase.Entails.rfl
omit [FloatOps F] in
theorem pay_recv (c : Dev nD) (b : Bool) (h : Fin 3) :
    (xPay X c b true h.val : sProp 𝕄) ⊢ slotOwn c b (sl c (h.val + 1)) (X b (sl c (h.val + 1))) := BIBase.Entails.rfl

/-- The slots of a buffer, for the barrier: the device's own, and the three to be given away. -/
theorem open_buf (c : Dev nD) (b : Bool) :
    iprop(∃ f : S4x2x8x256x64.Idx → Elt F .bf16, buf c b f)
      ⊢ (iprop((∃ Y : S2x8x256x64.Idx → Elt F .bf16, slotOwn c b (sl c 0) Y) ∗ (∃ Y : S2x8x256x64.Idx → Elt F .bf16, slotOwn c b (sl c 1) Y)
          ∗ (∃ Y : S2x8x256x64.Idx → Elt F .bf16, slotOwn c b (sl c 2) Y) ∗ (∃ Y : S2x8x256x64.Idx → Elt F .bf16, slotOwn c b (sl c 3) Y)) : sProp 𝕄) := by
  iintro ⟨%f, H⟩
  ihave H2 := (slots_split c b f) $$ H
  ihave H3 := (Entails.of_eq (four c _)) $$ H2
  icases H3 with ⟨H0, H1, H2, H3⟩
  isplitl [H0]; · iexists _; iexact H0
  isplitl [H1]; · iexists _; iexact H1
  isplitl [H2]; · iexists _; iexact H2
  iexists _; iexact H3

theorem close_buf (c : Dev nD) (b : Bool) :
    iprop(slotOwn c b (sl c 0) (X b (sl c 0)) ∗ slotOwn c b (sl c 1) (X b (sl c 1)) ∗ slotOwn c b (sl c 2) (X b (sl c 2))
        ∗ slotOwn c b (sl c 3) (X b (sl c 3)))
      ⊢ (buf c b (gath X b) : sProp 𝕄) := by
  refine BIBase.Entails.trans (Entails.of_eq (four c (fun z => slotOwn c b z (X b z))).symm) ?_
  exact slots_join c b (X b)

/-- Before the body: the queries, keys and values of the device staged, the result's buffer and the gathering ones at anything. -/
def bodyPre (K : CIx → ℕ) (c : Dev nD) (q k v : S2x8x256x64.Idx → Elt F .bf16) : sProp 𝕄 :=
  iprop(records X K ∗ levAts L lv ∗ meet c ∗ (bigSep Finset.univ fun x : Tix => hop c x) ∗ owesX c (O₀ c)
    ∗ (ptw c qM q ∗ ptw c kM k ∗ ptw c vM v ∗ ∃ f : S2x8x256x64.Idx → Elt F .f32, ptw c oM f)
    ∗ (∃ f : S4x2x8x256x64.Idx → Elt F .bf16, buf c false f) ∗ (∃ f : S4x2x8x256x64.Idx → Elt F .bf16, buf c true f))

def bodyPost (c : Dev nD) (q k v : S2x8x256x64.Idx → Elt F .bf16) : sProp 𝕄 :=
  iprop(closed c ∗ owesX c 0
    ∗ (ptw c qM q ∗ ptw c kM k ∗ ptw c vM v ∗ ptw c oM (outOf q (gath X false) (gath X true)))
    ∗ (∃ f : S4x2x8x256x64.Idx → Elt F .bf16, buf c false f) ∗ (∃ f : S4x2x8x256x64.Idx → Elt F .bf16, buf c true f))

set_option maxHeartbeats 4000000 in
theorem body_run (K : CIx → ℕ) (c : Dev nD) (q k v : S2x8x256x64.Idx → Elt F .bf16)
    (hXk : X false c = fun j => k0_pay3 k (inOne j)) (hXv : X true c = fun j => k0_pay5 (k0_pay4 v) (inOne j))
    (h0 : qM.IsWhole) (h1 : kM.IsWhole) (h2 : vM.IsWhole) (h3 : oM.IsWhole) (h4 : (bufM false).IsWhole) (h5 : (bufM true).IsWhole)
    (Kt : PUnit → sProp 𝕄) :
    iprop(bodyPre X K c q k v ∗ (bodyPost X c q k v -∗ Kt ⟨⟩))
      ⊢ wp frame (wpE (defs₀ (F := F)) 𝒱₀ (c : Thread nD τ) none) Set.univ
          (cc0_body (F := F) qM h0 kM h1 vM h2 oM h3 (bufM false) h4 (bufM true) h5 cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre meet
  rw [six]
  unfold hop
  iintro ⟨⟨#HR, #Hlev, ⟨HatB, HcB, ⟨#HrP, #HrN⟩, HtP, HtN⟩,
    ⟨⟨⟨HaSK0, HaRK0⟩, ⟨#HrSK0, #HrRK0⟩, ⟨HtSK0, HtRK0⟩, HcRK0⟩,
      ⟨⟨HaSV0, HaRV0⟩, ⟨#HrSV0, #HrRV0⟩, ⟨HtSV0, HtRV0⟩, HcRV0⟩,
      ⟨⟨HaSK1, HaRK1⟩, ⟨#HrSK1, #HrRK1⟩, ⟨HtSK1, HtRK1⟩, HcRK1⟩,
      ⟨⟨HaSV1, HaRV1⟩, ⟨#HrSV1, #HrRV1⟩, ⟨HtSV1, HtRV1⟩, HcRV1⟩,
      ⟨⟨HaSK2, HaRK2⟩, ⟨#HrSK2, #HrRK2⟩, ⟨HtSK2, HtRK2⟩, HcRK2⟩,
      ⟨⟨HaSV2, HaRV2⟩, ⟨#HrSV2, #HrRV2⟩, ⟨HtSV2, HtRV2⟩, HcRV2⟩⟩,
    HO, ⟨Hq, Hk, Hv, ⟨%fo, Ho⟩⟩, Hb0, Hb1⟩, HK⟩
  ihave Hb0' := (open_buf c false) $$ Hb0
  icases Hb0' with ⟨⟨%Y0, HsK0⟩, HgK0, HgK1, HgK2⟩
  ihave Hb1' := (open_buf c true) $$ Hb1
  icases Hb1' with ⟨⟨%Y1, HsV0⟩, HgV0, HgV1, HgV2⟩
  unfold owesX
  icases HO with ⟨%W, HO⟩
  ihave #HIP := (records_at X K (prv c, none)) $$ HR
  ihave #HIN := (records_at X K (nxt c, none)) $$ HR
  ihave #HIB := (records_at X K (c, none)) $$ HR
  simp only [dev1_eq c, dev2_eq c]
  -- the signal to the predecessor gives it the six slots it is to write
  iapply (Rounds.wp_signal 𝒱₀ ER (Rd X) (c : Thread nD τ) none (dst := (prv c : Thread nD τ)) (sem := barS) (r := 0) (d := true) (κ := K (prv c, none))
      (by rw [duties_bar]; exact Finset.mem_univ _) ((amount_bar X (prv c) true).trans (by decide)) () (O₁ c) rfl (W := W))
    $$ [HO HtP HgK0 HgK1 HgK2 HgV0 HgV1 HgV2]
  · isplitr; · iexact HIP
    isplitl [HO]; · iexact HO
    isplitl [HtP]; · iexact HtP
    isplitl
    · rw [payload_bar_true]; unfold barPay; rw [nxt_prv, six]; unfold giveOne
      isplitl [HgK0]
      · isplitl [HgK0]; · iexact HgK0
        iexact HrRK0
      isplitl [HgV0]
      · isplitl [HgV0]; · iexact HgV0
        iexact HrRV0
      isplitl [HgK1]
      · isplitl [HgK1]; · iexact HgK1
        iexact HrRK1
      isplitl [HgV1]
      · isplitl [HgV1]; · iexact HgV1
        iexact HrRV1
      isplitl [HgK2]
      · isplitl [HgK2]; · iexact HgK2
        iexact HrRK2
      isplitl [HgV2]; · iexact HgV2
      iexact HrRV2
    · iexact HrP
  iintro HO
  iapply (Rounds.wp_signal 𝒱₀ ER (Rd X) (c : Thread nD τ) none (dst := (nxt c : Thread nD τ)) (sem := barS) (r := 0) (d := false) (κ := K (nxt c, none))
      (by rw [duties_bar]; exact Finset.mem_univ _) ((amount_bar X (nxt c) false).trans (by decide)) () (owedFrom order c) rfl (W := W))
    $$ [HO HtN]
  · isplitr; · iexact HIN
    isplitl [HO]; · iexact HO
    isplitl [HtN]; · iexact HtN
    isplitr
    · rw [payload_bar_false]; iempintro
    · iexact HrN
  iintro HO
  -- the wait for both neighbours brings the successor's six slots
  iapply (Rounds.wp_wait_rest_token 𝒱₀ ER (Rd X) (c : Thread nD τ) none (κ := K (c, none))
      (wpE_semWait_eq 𝒱₀ (c : Thread nD τ) none Set.univ) (Set.mem_univ _) () (O := owedFrom order c) (W := W) (R := 0) (m := 0) (T := ∅)
      (by rw [expect_bar]; decide)) $$ [HcB HO HatB]
  · isplitr; · iexact HIB
    isplitl [HcB]; · iexact HcB
    isplitl [HO]; · iexact HO
    isplitr; · iapply (mayWait_owed c (.reg barS) order (fun x _ => by show 1 < 2 + x.2.val; omega)); iexact Hlev
    iexact HatB
  iintro ⟨HO, HatB, -, Hpay⟩
  ihave Hp := (rest_bar X c) $$ Hpay
  ihave Hp' := (Entails.of_eq (show (barPay c : sProp 𝕄) = _ from six _)) $$ Hp
  icases Hp' with ⟨HnK0, HnV0, HnK1, HnV1, HnK2, HnV2⟩
  ihave HO := (show (owes (c : Thread nD τ) (owedFrom order c) _ : sProp 𝕄) ⊢ owesX c (owedFrom order c) from by
    unfold owesX; iintro H; iexists _; iexact H) $$ HO
  -- the device's own blocks go to its own slots
  iapply (wp_load 𝒱₀ (c : Thread nD τ) none Set.univ (m := kM) (View.setOn_subset_set _ _)) $$ Hk
  iintro Hk
  rw [show kM.view.readAt (Elt F) (Rect.unit (s := S2x8x256x64) ![0, 0, 0, 0] S2x8x256x64.size inb_S2x8x256x64_S2x8x256x64_0_0_0_0).toLoadRect k = k
    from Memref.readAt_unit_zero (Elt F) cc0_stg1_0 zero4 _ k]
  iapply (wp_load_slot c false (sl c 0) _ (own_off c) _ Y0) $$ HsK0
  iintro %_ HsK0
  iapply (wp_store_slot c false (sl c 0) _ (own_off c) _ _ Y0) $$ HsK0
  iintro HsK0
  iapply (wp_load 𝒱₀ (c : Thread nD τ) none Set.univ (m := vM) (View.setOn_subset_set _ _)) $$ Hv
  iintro Hv
  rw [show vM.view.readAt (Elt F) (Rect.unit (s := S2x8x256x64) ![0, 0, 0, 0] S2x8x256x64.size inb_S2x8x256x64_S2x8x256x64_0_0_0_0).toLoadRect v = v
    from Memref.readAt_unit_zero (Elt F) cc0_stg2_0 zero4 _ v]
  iapply (wp_load_slot c true (sl c 0) _ (own_off c) _ Y1) $$ HsV0
  iintro %_ HsV0
  iapply (wp_store_slot c true (sl c 0) _ (own_off c) _ _ Y1) $$ HsV0
  iintro HsV0
  rw [show (fun j => k0_pay3 k (inOne j)) = X false (sl c 0) from by rw [sl_zero, hXk],
    show (fun j => k0_pay5 (k0_pay4 v) (inOne j)) = X true (sl c 0) from by rw [sl_zero, hXv]]
  -- hop 0
  iapply (wp_send_slot c X K _ (dev3_eq c) false 0 [(true, 0), (false, 1), (true, 1), (false, 2), (true, 2)] _ (slot_at false c 0 _) _ _ rfl rfl) $$ [HsK0 HnK0 HO HtSK0 HtRK0]
  · isplitr; · iexact HR
    isplitl [HsK0]; · iexact HsK0
    isplitl [HnK0]; · iexact HnK0
    isplitl [HO]; · iexact HO
    isplitl [HtSK0]
    · isplitl [HtSK0]; · iexact HtSK0
      iexact HrSK0
    iexact HtRK0
  iintro ⟨HcSK0, HO⟩
  iapply (wp_send_slot c X K _ (dev4_eq c) true 0 [(false, 1), (true, 1), (false, 2), (true, 2)] _ (slot_at true c 0 _) _ _ rfl rfl) $$ [HsV0 HnV0 HO HtSV0 HtRV0]
  · isplitr; · iexact HR
    isplitl [HsV0]; · iexact HsV0
    isplitl [HnV0]; · iexact HnV0
    isplitl [HO]; · iexact HO
    isplitl [HtSV0]
    · isplitl [HtSV0]; · iexact HtSV0
      iexact HrSV0
    iexact HtRV0
  iintro ⟨HcSV0, HO⟩
  iapply (wp_wait_x c X K false false 0 [(false, 1), (true, 1), (false, 2), (true, 2)] (below c false false 0 _ (by decide)) _ rfl _ _ (slot_at false c 0 _)) $$ [HcSK0 HO HaSK0]
  · isplitr; · iexact HR
    isplitr; · iexact Hlev
    isplitl [HcSK0]; · iexact HcSK0
    isplitl [HO]; · iexact HO
    iexact HaSK0
  iintro ⟨HO, HaSK0, Hp⟩
  ihave HeK0 := (pay_send X c false 0) $$ Hp
  iapply (wp_wait_x c X K false true 0 [(false, 1), (true, 1), (false, 2), (true, 2)] (below c false true 0 _ (by decide)) _ rfl _ _ (slot_at false c 0 _)) $$ [HcRK0 HO HaRK0]
  · isplitr; · iexact HR
    isplitr; · iexact Hlev
    isplitl [HcRK0]; · iexact HcRK0
    isplitl [HO]; · iexact HO
    iexact HaRK0
  iintro ⟨HO, HaRK0, Hp⟩
  ihave HsK1 := (pay_recv X c false 0) $$ Hp
  iapply (wp_wait_x c X K true false 0 [(false, 1), (true, 1), (false, 2), (true, 2)] (below c true false 0 _ (by decide)) _ rfl _ _ (slot_at true c 0 _)) $$ [HcSV0 HO HaSV0]
  · isplitr; · iexact HR
    isplitr; · iexact Hlev
    isplitl [HcSV0]; · iexact HcSV0
    isplitl [HO]; · iexact HO
    iexact HaSV0
  iintro ⟨HO, HaSV0, Hp⟩
  ihave HeV0 := (pay_send X c true 0) $$ Hp
  iapply (wp_wait_x c X K true true 0 [(false, 1), (true, 1), (false, 2), (true, 2)] (below c true true 0 _ (by decide)) _ rfl _ _ (slot_at true c 0 _)) $$ [HcRV0 HO HaRV0]
  · isplitr; · iexact HR
    isplitr; · iexact Hlev
    isplitl [HcRV0]; · iexact HcRV0
    isplitl [HO]; · iexact HO
    iexact HaRV0
  iintro ⟨HO, HaRV0, Hp⟩
  ihave HsV1 := (pay_recv X c true 0) $$ Hp
  -- hop 1
  iapply (wp_send_slot c X K _ (dev5_eq c) false 1 [(true, 1), (false, 2), (true, 2)] _ (slot_at false c 1 _) _ _ rfl rfl) $$ [HsK1 HnK1 HO HtSK1 HtRK1]
  · isplitr; · iexact HR
    isplitl [HsK1]; · iexact HsK1
    isplitl [HnK1]; · iexact HnK1
    isplitl [HO]; · iexact HO
    isplitl [HtSK1]
    · isplitl [HtSK1]; · iexact HtSK1
      iexact HrSK1
    iexact HtRK1
  iintro ⟨HcSK1, HO⟩
  iapply (wp_send_slot c X K _ (dev6_eq c) true 1 [(false, 2), (true, 2)] _ (slot_at true c 1 _) _ _ rfl rfl) $$ [HsV1 HnV1 HO HtSV1 HtRV1]
  · isplitr; · iexact HR
    isplitl [HsV1]; · iexact HsV1
    isplitl [HnV1]; · iexact HnV1
    isplitl [HO]; · iexact HO
    isplitl [HtSV1]
    · isplitl [HtSV1]; · iexact HtSV1
      iexact HrSV1
    iexact HtRV1
  iintro ⟨HcSV1, HO⟩
  iapply (wp_wait_x c X K false false 1 [(false, 2), (true, 2)] (below c false false 1 _ (by decide)) _ rfl _ _ (slot_at false c 1 _)) $$ [HcSK1 HO HaSK1]
  · isplitr; · iexact HR
    isplitr; · iexact Hlev
    isplitl [HcSK1]; · iexact HcSK1
    isplitl [HO]; · iexact HO
    iexact HaSK1
  iintro ⟨HO, HaSK1, Hp⟩
  ihave HeK1 := (pay_send X c false 1) $$ Hp
  iapply (wp_wait_x c X K false true 1 [(false, 2), (true, 2)] (below c false true 1 _ (by decide)) _ rfl _ _ (slot_at false c 1 _)) $$ [HcRK1 HO HaRK1]
  · isplitr; · iexact HR
    isplitr; · iexact Hlev
    isplitl [HcRK1]; · iexact HcRK1
    isplitl [HO]; · iexact HO
    iexact HaRK1
  iintro ⟨HO, HaRK1, Hp⟩
  ihave HsK2 := (pay_recv X c false 1) $$ Hp
  iapply (wp_wait_x c X K true false 1 [(false, 2), (true, 2)] (below c true false 1 _ (by decide)) _ rfl _ _ (slot_at true c 1 _)) $$ [HcSV1 HO HaSV1]
  · isplitr; · iexact HR
    isplitr; · iexact Hlev
    isplitl [HcSV1]; · iexact HcSV1
    isplitl [HO]; · iexact HO
    iexact HaSV1
  iintro ⟨HO, HaSV1, Hp⟩
  ihave HeV1 := (pay_send X c true 1) $$ Hp
  iapply (wp_wait_x c X K true true 1 [(false, 2), (true, 2)] (below c true true 1 _ (by decide)) _ rfl _ _ (slot_at true c 1 _)) $$ [HcRV1 HO HaRV1]
  · isplitr; · iexact HR
    isplitr; · iexact Hlev
    isplitl [HcRV1]; · iexact HcRV1
    isplitl [HO]; · iexact HO
    iexact HaRV1
  iintro ⟨HO, HaRV1, Hp⟩
  ihave HsV2 := (pay_recv X c true 1) $$ Hp
  -- hop 2
  iapply (wp_send_slot c X K _ (dev7_eq c) false 2 [(true, 2)] _ (slot_at false c 2 _) _ _ rfl rfl) $$ [HsK2 HnK2 HO HtSK2 HtRK2]
  · isplitr; · iexact HR
    isplitl [HsK2]; · iexact HsK2
    isplitl [HnK2]; · iexact HnK2
    isplitl [HO]; · iexact HO
    isplitl [HtSK2]
    · isplitl [HtSK2]; · iexact HtSK2
      iexact HrSK2
    iexact HtRK2
  iintro ⟨HcSK2, HO⟩
  iapply (wp_send_slot c X K _ (dev8_eq c) true 2 [] _ (slot_at true c 2 _) _ _ rfl rfl) $$ [HsV2 HnV2 HO HtSV2 HtRV2]
  · isplitr; · iexact HR
    isplitl [HsV2]; · iexact HsV2
    isplitl [HnV2]; · iexact HnV2
    isplitl [HO]; · iexact HO
    isplitl [HtSV2]
    · isplitl [HtSV2]; · iexact HtSV2
      iexact HrSV2
    iexact HtRV2
  iintro ⟨HcSV2, HO⟩
  iapply (wp_wait_x c X K false false 2 [] (below c false false 2 _ (by decide)) _ rfl _ _ (slot_at false c 2 _)) $$ [HcSK2 HO HaSK2]
  · isplitr; · iexact HR
    isplitr; · iexact Hlev
    isplitl [HcSK2]; · iexact HcSK2
    isplitl [HO]; · iexact HO
    iexact HaSK2
  iintro ⟨HO, HaSK2, Hp⟩
  ihave HeK2 := (pay_send X c false 2) $$ Hp
  iapply (wp_wait_x c X K false true 2 [] (below c false true 2 _ (by decide)) _ rfl _ _ (slot_at false c 2 _)) $$ [HcRK2 HO HaRK2]
  · isplitr; · iexact HR
    isplitr; · iexact Hlev
    isplitl [HcRK2]; · iexact HcRK2
    isplitl [HO]; · iexact HO
    iexact HaRK2
  iintro ⟨HO, HaRK2, Hp⟩
  ihave HsK3 := (pay_recv X c false 2) $$ Hp
  iapply (wp_wait_x c X K true false 2 [] (below c true false 2 _ (by decide)) _ rfl _ _ (slot_at true c 2 _)) $$ [HcSV2 HO HaSV2]
  · isplitr; · iexact HR
    isplitr; · iexact Hlev
    isplitl [HcSV2]; · iexact HcSV2
    isplitl [HO]; · iexact HO
    iexact HaSV2
  iintro ⟨HO, HaSV2, Hp⟩
  ihave HeV2 := (pay_send X c true 2) $$ Hp
  iapply (wp_wait_x c X K true true 2 [] (below c true true 2 _ (by decide)) _ rfl _ _ (slot_at true c 2 _)) $$ [HcRV2 HO HaRV2]
  · isplitr; · iexact HR
    isplitr; · iexact Hlev
    isplitl [HcRV2]; · iexact HcRV2
    isplitl [HO]; · iexact HO
    iexact HaRV2
  iintro ⟨HO, HaRV2, Hp⟩
  ihave HsV3 := (pay_recv X c true 2) $$ Hp
  -- both buffers are whole again
  ihave Hb0 := (close_buf X c false) $$ [HeK0 HeK1 HeK2 HsK3]
  · isplitl [HeK0]; · iexact HeK0
    isplitl [HeK1]; · iexact HeK1
    isplitl [HeK2]; · iexact HeK2
    iexact HsK3
  ihave Hb1 := (close_buf X c true) $$ [HeV0 HeV1 HeV2 HsV3]
  · isplitl [HeV0]; · iexact HeV0
    isplitl [HeV1]; · iexact HeV1
    isplitl [HeV2]; · iexact HeV2
    iexact HsV3
  iapply (loops_run c q (gath X false) (gath X true) fo) $$ [Hq Hb0 Hb1 Ho]
  · unfold loopAt
    rw [outTo_zero, ← buf_pt0, ← buf_pt1]
    isplitl [Hq]; · iexact Hq
    isplitl [Hb0]; · iexact Hb0
    isplitl [Hb1]; · iexact Hb1
    iexact Ho
  unfold loopAt
  rw [outTo_all, ← buf_pt0, ← buf_pt1]
  iintro ⟨Hq, Hb0, Hb1, Ho⟩
  rw [wp_ret]
  imod (close_cell X K c false (false, 0)) $$ [HaSK0] with HzSK0
  · isplitr; · iexact HR
    iexact HaSK0
  imod (close_cell X K c true (false, 0)) $$ [HaRK0] with HzRK0
  · isplitr; · iexact HR
    iexact HaRK0
  imod (close_cell X K c false (true, 0)) $$ [HaSV0] with HzSV0
  · isplitr; · iexact HR
    iexact HaSV0
  imod (close_cell X K c true (true, 0)) $$ [HaRV0] with HzRV0
  · isplitr; · iexact HR
    iexact HaRV0
  imod (close_cell X K c false (false, 1)) $$ [HaSK1] with HzSK1
  · isplitr; · iexact HR
    iexact HaSK1
  imod (close_cell X K c true (false, 1)) $$ [HaRK1] with HzRK1
  · isplitr; · iexact HR
    iexact HaRK1
  imod (close_cell X K c false (true, 1)) $$ [HaSV1] with HzSV1
  · isplitr; · iexact HR
    iexact HaSV1
  imod (close_cell X K c true (true, 1)) $$ [HaRV1] with HzRV1
  · isplitr; · iexact HR
    iexact HaRV1
  imod (close_cell X K c false (false, 2)) $$ [HaSK2] with HzSK2
  · isplitr; · iexact HR
    iexact HaSK2
  imod (close_cell X K c true (false, 2)) $$ [HaRK2] with HzRK2
  · isplitr; · iexact HR
    iexact HaRK2
  imod (close_cell X K c false (true, 2)) $$ [HaSV2] with HzSV2
  · isplitr; · iexact HR
    iexact HaSV2
  imod (close_cell X K c true (true, 2)) $$ [HaRV2] with HzRV2
  · isplitr; · iexact HR
    iexact HaRV2
  imod (close_bar X K c) $$ [HatB] with HzB
  · isplitr; · iexact HR
    iexact HatB
  imodintro
  iapply HK
  unfold bodyPost closed
  rw [twelve, six, six]
  isplitl [HzB HzSK0 HzSV0 HzSK1 HzSV1 HzSK2 HzSV2 HzRK0 HzRV0 HzRK1 HzRV1 HzRK2 HzRV2]
  · isplitr [HzB]
    · isplitl [HzSK0 HzSV0 HzSK1 HzSV1 HzSK2 HzSV2]
      · isplitl [HzSK0]; · iexact HzSK0
        isplitl [HzSV0]; · iexact HzSV0
        isplitl [HzSK1]; · iexact HzSK1
        isplitl [HzSV1]; · iexact HzSV1
        isplitl [HzSK2]; · iexact HzSK2
        iexact HzSV2
      isplitl [HzRK0]; · iexact HzRK0
      isplitl [HzRV0]; · iexact HzRV0
      isplitl [HzRK1]; · iexact HzRK1
      isplitl [HzRV1]; · iexact HzRV1
      isplitl [HzRK2]; · iexact HzRK2
      iexact HzRV2
    iexact HzB
  isplitl [HO]; · iexact HO
  isplitl [Hq Hk Hv Ho]
  · isplitl [Hq]; · iexact Hq
    isplitl [Hk]; · iexact Hk
    isplitl [Hv]; · iexact Hv
    iexact Ho
  isplitl [Hb0]; · iexists _; iexact Hb0
  iexists _; iexact Hb1

end Cert.KernelIdealProof

end
-- ==== Proof.KernelIdealRegion.lean ====
/-
  The kernel's region of the program: what its windows hold before and after, and the body's obligation.
-/
module

public import proofs.«01_k».proof.Proof.KernelIdealBody
public import proofs.«01_k».proof.Proof.Gen.KernelIdeal.Frame

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s buffers as launched; after the operations before the kernel. -/
abbrev V₀ (c : Dev nD) : Valuation τ sig (Elt F) := fun b => m (c, b)
abbrev V₁ (c : Dev nD) : Valuation τ sig (Elt F) := StableHlo.after hostOps0 (V₀ m c)

/-- The queries, keys and values the kernel finds. -/
def qf (c : Dev nD) : S2x8x256x64.Idx → Elt F .bf16 := V₁ m c (Proc.devRef .tc main_v4)
def kf (c : Dev nD) : S2x8x256x64.Idx → Elt F .bf16 := V₁ m c (Proc.devRef .tc main_v6)
def vf (c : Dev nD) : S2x8x256x64.Idx → Elt F .bf16 := V₁ m c (Proc.devRef .tc main_v8)

/-- What each slot is to hold. -/
def XX (b : Bool) (z : Dev nD) : S2x8x256x64.Idx → Elt F .bf16 :=
  match b with
  | false => fun j => k0_pay3 (kf m z) (inOne j)
  | true => fun j => k0_pay5 (k0_pay4 (vf m z)) (inOne j)

/-- The kernel's result on device `c`. -/
def res (c : Dev nD) : S2x8x256x64.Idx → Elt F .f32 := outOf (qf m c) (gath (XX m) false) (gath (XX m) true)

theorem blk_read0 (f : S2x8x256x64.Idx → Elt F .bf16) : ((cfg0.win 0).blk t0_0).view.read (Elt F) f = f :=
  funext fun i => congrArg f (funext fun a => Fin.ext (Window.rect_emb_val_of_index_zero (cfg0.win 0) t0_0 a (by fin_cases a <;> decide) i))
theorem blk_read1 (f : S2x8x256x64.Idx → Elt F .bf16) : ((cfg0.win 1).blk t0_0).view.read (Elt F) f = f :=
  funext fun i => congrArg f (funext fun a => Fin.ext (Window.rect_emb_val_of_index_zero (cfg0.win 1) t0_0 a (by fin_cases a <;> decide) i))
theorem blk_read2 (f : S2x8x256x64.Idx → Elt F .bf16) : ((cfg0.win 2).blk t0_0).view.read (Elt F) f = f :=
  funext fun i => congrArg f (funext fun a => Fin.ext (Window.rect_emb_val_of_index_zero (cfg0.win 2) t0_0 a (by fin_cases a <;> decide) i))

/-! ## The proof data -/

/-- The two buffers of slots, at contents not chosen. -/
def slotsAny (c : Dev nD) : sProp 𝕄 := iprop((∃ f, buf (F := F) c false f) ∗ (∃ f, buf (F := F) c true f))

/-- What enters the kernel with device `c`. -/
def entry (c : Dev nD) : sProp 𝕄 :=
  iprop((∃ K : CIx → ℕ, records (XX m) K) ∗ levAts L lv ∗ meet c ∗ (bigSep Finset.univ fun x : Tix => hop c x))

def dat (c : Dev nD) : Dat τ (Elt F) Unit ℕ UU ℕ cfg0 c where
  A w := V₁ m c (Proc.devRef .tc (Pipeline.arrRef spec0 w))
  after := fun
    | 0 => fun _ => qf m c
    | 1 => fun _ => kf m c
    | 2 => fun _ => vf m c
    | 3 => fun _ => res m c
    | ⟨_ + 4, h⟩ => absurd h (Nat.not_lt.2 (Nat.le_add_left _ _))
  Φ t := if t.val = 0 then iprop(entry m c ∗ slotsAny c ∗ ∃ r, prngReg c r) else iprop(closed c ∗ slotsAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before0 (c : Dev nD) (d) : (dat m c).before 0 t0_0 d = qf m c :=
  ((dat m c).before_in_eq_fetched 0 rfl (fun _ => rfl) (fun _ _ _ => rfl) (fun t => by
    obtain rfl := fin_N0 t; exact (blk_read0 (qf m c)).symm) t0_0 d).trans (blk_read0 (qf m c))
theorem before1 (c : Dev nD) (d) : (dat m c).before 1 t0_0 d = kf m c :=
  ((dat m c).before_in_eq_fetched 1 rfl (fun _ => rfl) (fun _ _ _ => rfl) (fun t => by
    obtain rfl := fin_N0 t; exact (blk_read1 (kf m c)).symm) t0_0 d).trans (blk_read1 (kf m c))
theorem before2 (c : Dev nD) (d) : (dat m c).before 2 t0_0 d = vf m c :=
  ((dat m c).before_in_eq_fetched 2 rfl (fun _ => rfl) (fun _ _ _ => rfl) (fun t => by
    obtain rfl := fin_N0 t; exact (blk_read2 (vf m c)).symm) t0_0 d).trans (blk_read2 (vf m c))

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat m c).owed t = O) :
    (owesX c O : sProp 𝕄) ⊢ (dat m c).owesAt () t := by
  unfold owesX Dat.owesAt Pipeline.owesWithin Dat.bound; rw [h0, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ owesX c O := by
  unfold owesX Dat.owesAt Pipeline.owesWithin; rw [h0]
  iintro ⟨%W, -, HO⟩; iexists W; iexact HO

/-! ## The body's obligation -/

/-- A staging buffer owned at contents `f`, as the kernel's run states it. -/
theorem owns_stage (c : Dev nD) (b : Ref sig .tc) (f : b.ty.Contents (Elt F)) :
    (owns (c : Thread nD τ) (Memref.whole b) fullShare f : sProp 𝕄)
      = ((Memref.whole b).view.loc (c : Thread nD τ) ↦[(Memref.whole b).view.set]{fullShare} f) :=
  (owns_whole (c : Thread nD τ) b fullShare f).trans (pt_whole c b f).symm

set_option maxHeartbeats 800000 in
theorem body (c : Dev nD) : BodyObligation (dat m c) (defs₀ (F := F)) 𝒱₀ () Set.univ := fun t => by
  obtain rfl := fin_N0 t
  rw [bigSep_W0, bigSep_W0]
  rw [show (dat m c).Φ t0_0.castSucc = iprop(entry m c ∗ slotsAny c ∗ ∃ r, prngReg c r) from rfl,
    show (dat m c).Φ t0_0.succ = iprop(closed c ∗ slotsAny c ∗ ∃ r, prngReg c r) from rfl]
  simp only [before0, before1, before2]
  unfold entry
  iintro ⟨⟨⟨⟨%K, #HR⟩, #Hlev, Hm, Hh⟩, Hs, Hreg⟩, HO, ⟨%d0, Hq⟩, ⟨%d1, Hk⟩, ⟨%d2, Hv⟩, ⟨%d3, Ho⟩⟩
  ihave HO' := (owesAt_elim m c _ (O₀ c) (owed_first m c)) $$ HO
  iapply (body_run (XX m) K c (qf m c) (kf m c) (vf m c) rfl rfl (Memref.isWhole_whole _) (Memref.isWhole_whole _)
    (Memref.isWhole_whole _) (Memref.isWhole_whole _) (Memref.isWhole_whole _) (Memref.isWhole_whole _) _)
  isplitl [HO' Hm Hh Hs Hq Hk Hv Ho]
  · unfold bodyPre
    isplitr; · iexact HR
    isplitr; · iexact Hlev
    isplitl [Hm]; · iexact Hm
    isplitl [Hh]; · iexact Hh
    isplitl [HO']; · iexact HO'
    isplitl [Hq Hk Hv Ho]
    · isplitl [Hq]; · iapply (Entails.of_eq (owns_stage c cc0_stg0_0 (qf m c))); iexact Hq
      isplitl [Hk]; · iapply (Entails.of_eq (owns_stage c cc0_stg1_0 (kf m c))); iexact Hk
      isplitl [Hv]; · iapply (Entails.of_eq (owns_stage c cc0_stg2_0 (vf m c))); iexact Hv
      iexists _; iapply (Entails.of_eq (owns_stage c cc0_stg3_0 _)); iexact Ho
    unfold slotsAny; iexact Hs
  unfold bodyPost
  iintro ⟨Hc, HO, ⟨Hq, Hk, Hv, Ho⟩, Hs⟩
  isplitl [Hc Hs Hreg]
  · isplitl [Hc]; · iexact Hc
    isplitl [Hs]; · unfold slotsAny; iexact Hs
    iexact Hreg
  isplitl [HO]; · iapply (owesAt_intro m c t0_0.succ 0 (owed_last m c)); iexact HO
  isplitl [Hq]; · iapply (Entails.of_eq (owns_stage c cc0_stg0_0 (qf m c)).symm); iexact Hq
  isplitl [Hk]; · iapply (Entails.of_eq (owns_stage c cc0_stg1_0 (kf m c)).symm); iexact Hk
  isplitl [Hv]; · iapply (Entails.of_eq (owns_stage c cc0_stg2_0 (vf m c)).symm); iexact Hv
  iapply (Entails.of_eq (owns_stage c cc0_stg3_0 (res m c)).symm); iexact Ho

end Cert.KernelIdealProof

end
-- ==== Proof.KernelIdealSegs.lean ====
/-
  The program's three parts: the operations before the kernel, the kernel, the operation after it.
-/
module

public import proofs.«01_k».proof.Proof.KernelIdealRegion
public import Idealize.ShloMosaic.Harness.Basic
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What rides along with the buffers -/

/-- What a device keeps for one transfer from launch to the kernel: the right to open the two cells it will wait on, the duties it
    pays, and the credit of what it receives. -/
def dormant (c : Dev nD) (x : Tix) : sProp 𝕄 :=
  iprop((openTok ER (xCell c false x) ∗ openTok ER (xCell c true x))
    ∗ (dutyTok ER (xCell c false x) 0 false ∗ dutyTok ER (xCell (nxt c) true x) 0 false) ∗ cred (tallyAt (xCell c true x) () N))

def Tk (c : Dev nD) : sProp 𝕄 :=
  iprop((∃ K : CIx → ℕ, records (XX m) K) ∗ meet c ∗ (bigSep Finset.univ fun x : Tix => dormant c x))
def Yk (c : Dev nD) : sProp 𝕄 := semVal (barCell c) 0

def R (c : Dev nD) : sProp 𝕄 := iprop((Tk m c ∗ ∃ r, prngReg c r) ∗ owesX c (O₀ c))

/-- The buffers once the kernel is done; at the end. -/
abbrev V₂ (c : Dev nD) : Valuation τ sig (Elt F) := Function.update (V₁ m c) (Proc.devRef .tc main_v9) (res m c)
abbrev V₃ (c : Dev nD) : Valuation τ sig (Elt F) := StableHlo.after hostOps1 (V₂ m c)

/-! ## Opening the cells at the kernel's entry -/

theorem open_one (c : Dev nD) (x : Tix) (K : CIx → ℕ) :
    iprop(records (XX m) K ∗ (dormant c x ∗ (semVal (xCell c false x) 0 ∗ semVal (xCell c true x) 0)))
      ⊢ (|={Set.univ}=> hop c x : sProp 𝕄) := by
  unfold dormant hop
  iintro ⟨#HR, ⟨⟨Ho1, Ho2⟩, Ht, Hc⟩, Hs1, Hs2⟩
  imod (Rounds.cell_open ER (Rd (XX m)) (g := xCell c false x) (Set.mem_univ (K (c, some (false, x))))) $$ [Ho1 Hs1] with ⟨Ha1, #Hr1⟩
  · isplitr; · iapply (records_at (XX m) K (c, some (false, x))); iexact HR
    isplitl [Ho1] <;> iassumption
  imod (Rounds.cell_open ER (Rd (XX m)) (g := xCell c true x) (Set.mem_univ (K (c, some (true, x))))) $$ [Ho2 Hs2] with ⟨Ha2, #Hr2⟩
  · isplitr; · iapply (records_at (XX m) K (c, some (true, x))); iexact HR
    isplitl [Ho2] <;> iassumption
  imodintro
  isplitl [Ha1 Ha2]; · isplitl [Ha1] <;> iassumption
  isplitr; · isplitr; · iexact Hr1
             iexact Hr2
  isplitl [Ht] <;> iassumption

theorem open_all (c : Dev nD) :
    iprop(Tk m c ∗ Pipeline.ownSems0 osem c ∗ levAts L lv) ⊢ (|={Set.univ}=> entry m c : sProp 𝕄) := by
  unfold Tk entry
  iintro ⟨⟨⟨%K, #HR⟩, Hm, Hd⟩, Hs, #Hlev⟩
  ihave Hs' := (show (Pipeline.ownSems0 osem c : sProp 𝕄)
      ⊢ iprop((bigSep Finset.univ fun x : Tix => semVal (xCell c false x) 0) ∗ (bigSep Finset.univ fun x : Tix => semVal (xCell c true x) 0)) from
    Entails.of_eq (twelve fun k : Bool × Tix => (semVal (xCell c k.1 k.2) 0 : sProp 𝕄))) $$ Hs
  ihave Hs2 := Smoke.bigSep_pair $$ Hs'
  ihave H := Smoke.bigSep_pair $$ [Hd Hs2]
  · isplitl [Hd]; · iexact Hd
    iexact Hs2
  imod ((bigSep_with_persistent (R := records (XX m) K) (fun x _ => open_one m c x K)).trans (bigSep_fupd Finset.univ fun x => hop c x)) $$ [H] with Hh
  · isplitr; · iexact HR
    iexact H
  imodintro
  isplitr; · iexists K; iexact HR
  isplitr; · iexact Hlev
  isplitl [Hm] <;> iassumption

theorem slotsAny_eq (c : Dev nD) : (Pipeline.scopedRest (Pipeline.pin (pcfgs (F := F)) adm 0).spec c : sProp 𝕄) = slotsAny c := by
  refine (scopedRest0_eq c).trans ?_
  unfold slotsAny
  congr 1
  · exact congrArg _ (funext fun f => (buf_raw0 c f).symm)
  · exact congrArg _ (funext fun f => (buf_raw1 c f).symm)

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r)
      ∗ StableHlo.held (c.tc : Thread nD τ) ∅ (V₁ m c) ∗ entry m c)
    ⊢ (pdats m 0 c).Φ 0 := by
  rw [show (pdats m 0 c).Φ 0 = iprop(entry m c ∗ slotsAny c ∗ ∃ r, prngReg c r) from rfl, slotsAny_eq]
  iintro ⟨Hs, Hp, -, HX⟩
  isplitl [HX]; · iexact HX
  isplitl [Hs] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (V₂ m c) ∗ Pipeline.ownSems0 osem c ∗ Yk c) := by
  rw [show (pdats m 0 c).Φ (Fin.last _) = iprop(closed c ∗ slotsAny c ∗ ∃ r, prngReg c r) from rfl, slotsAny_eq, held_none]
  unfold closed Yk
  iintro ⟨⟨Ho, Hb⟩, Hs, Hp⟩
  isplitl [Hs]; · iexact Hs
  isplitl [Hp]; · iexact Hp
  isplitr; · iempintro
  isplitl [Ho]; · iapply (Entails.of_eq (show (bigSep Finset.univ fun k : Bool × Tix => semVal (xCell c k.1 k.2) 0 : sProp 𝕄) = Pipeline.ownSems0 osem c from rfl)); iexact Ho
  iexact Hb

/-! ## The kernel's arrays, before and after -/

theorem V₂_v9 (c : Dev nD) : V₂ m c (Proc.devRef .tc main_v9) = res m c := Function.update_self _ _ _
theorem V₂_ne (c : Dev nD) (b : DevRef τ sig) (h : b ≠ Proc.devRef .tc main_v9) : V₂ m c b = V₁ m c b := Function.update_of_ne h _ _

theorem arr_last (c : Dev nD) : (dat m c).arrAt 3 cfg0.N = res m c := by
  have hw : (cfg0.win 3).WholeAt t0_0 := by decide +kernel
  exact Dat.arrAt_eq_of_after_last (dat m c) 3 t0_0 hw (res m c) (fun j => rfl)

theorem arr_after (c : Dev nD) : ∀ w : Fin 4, (dat m c).arrAt w cfg0.N = V₂ m c (Proc.devRef .tc (Pipeline.arrRef spec0 w))
  | 0 => (Dat.arrAt_in (dat m c) 0 rfl cfg0.N).trans (V₂_ne m c (Proc.devRef .tc main_v4) (StableHlo.devRef_ne_of_ne (by decide))).symm
  | 1 => (Dat.arrAt_in (dat m c) 1 rfl cfg0.N).trans (V₂_ne m c (Proc.devRef .tc main_v6) (StableHlo.devRef_ne_of_ne (by decide))).symm
  | 2 => (Dat.arrAt_in (dat m c) 2 rfl cfg0.N).trans (V₂_ne m c (Proc.devRef .tc main_v8) (StableHlo.devRef_ne_of_ne (by decide))).symm
  | 3 => (arr_last m c).trans (V₂_v9 m c).symm
  | ⟨_ + 4, h⟩ => absurd h (Nat.not_lt.2 (Nat.le_add_left _ _))

/-- The buffers the kernel does not touch. -/
abbrev others : Finset (DevRef τ sig) := Pipeline.ucRefs τ sig \ Pipeline.arrRefs spec0

theorem arrs_sub : Pipeline.arrRefs (τ := τ) spec0 ⊆ Pipeline.ucRefs τ sig := Pipeline.arrRefs_sub_ucRefs spec0 winFacts0.arr_unscoped

theorem rest_same (c : Dev nD) (b : DevRef τ sig) (hb : b ∈ others) : V₂ m c b = V₁ m c b :=
  V₂_ne m c b fun h => by
    subst h
    refine (Finset.mem_sdiff.mp hb).2 ?_
    exact Finset.mem_map_of_mem _ (Finset.mem_image_of_mem (Pipeline.arrRef spec0) (Finset.mem_univ (3 : Fin 4)))

/-! ## The three parts -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem ops0_sub : ∀ op ∈ (hostOps0 : List (HloOp τ sig (Elt F))), op.bufs ⊆ Pipeline.ucRefs τ sig :=
  fun op h => Pipeline.sub_ucRefs op (List.forall_iff_forall_mem.mp hostOps0_sub op h)
theorem ops1_sub : ∀ op ∈ (hostOps1 : List (HloOp τ sig (Elt F))), op.bufs ⊆ Pipeline.ucRefs τ sig :=
  fun op h => Pipeline.sub_ucRefs op (List.forall_iff_forall_mem.mp hostOps1_sub op h)

def seg0 : ℍ := Pipeline.HostSeg.ofOps _ _ _ _ _ (Pipeline.ucRefs τ sig) hostOps0 ops0_sub
  (List.forall_iff_forall_mem.mp hostOps0_fresh) (V₀ m) (R m)

/-- What is left beside the buffers when the kernel is done. -/
def R' (c : Dev nD) : sProp 𝕄 := iprop(semVal (barCell c) 0 ∗ owesX c 0)

def seg1 : ℍ := Pipeline.HostSeg.ofOps _ _ _ _ _ (Pipeline.ucRefs τ sig) hostOps1 ops1_sub
  (List.forall_iff_forall_mem.mp hostOps1_fresh) (V₂ m) R'

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨x, rfl⟩ | rfl | rfl
    · exact ⟨mem_L _ _ _, by rw [lv_recv]; omega⟩
    · exact ⟨mem_L _ _ _, by rw [lv_bar]; decide⟩
    · exact ⟨mem_L _ _ _, by rw [lv_bar]; decide⟩
  · exact absurd h (Nat.lt_irrefl 0)

theorem lv_stage : ∀ (w : Fin 4) (s : Fin (spec0 w).nbuf) (c : Dev nD), lv ((c : Thread nD τ), .dma ((spec0 w).sem s)) () ≤ 0 := by
  decide

theorem share_full (c : Dev nD) (w : Fin 4) : (pdats m 0 c).share w = fullShare := by
  unfold Dat.share; split <;> rfl

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body m c).loose)
    (fun _ => 0) O₀ (fun c => (owed_first m c).trans (zero_add _).symm) (owed_last m) (fun _ => rfl) (share_full m)
    (V₁ m) (V₂ m) (fun c b hb => rest_same m c b (Finset.mem_sdiff.mp hb).1)
    (Tk m) Yk (entry m) Yk (open_all m) (enter m) (leave m)
    (fun c => by iintro H; imodintro; iexact H)
    (fun _ => 0)
    ⟨fun c w s => mem_L _ _ _, fun c w s => lv_stage w s c, fun c t g i h => cutD m c t g i h⟩
    (fun _ => iprop(emp))
    (fun _ _ => rfl) (fun c w => arr_after m c w)

set_option backward.isDefEq.respectTransparency.types false in
theorem reg0_pre (c : Dev nD) : iprop(StableHlo.held (c : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c : Thread nD τ) arrs_sub, zero_add]
  unfold R owesX
  iintro ⟨⟨Ha, Hh⟩, ⟨HT, Hp⟩, HO⟩
  isplitl [Ha]; · iexact Ha
  isplitl [Hp]; · iexact Hp
  isplitl [Hh]
  · isplitl [Hh]; · iexact Hh
    iempintro
  isplitl [HT] <;> iassumption

set_option backward.isDefEq.respectTransparency.types false in
theorem reg0_post (c : Dev nD) : (reg0 m).post c ⊢ iprop(StableHlo.held (c : Thread nD τ) (Pipeline.ucRefs τ sig) (V₂ m c) ∗ R' c) := by
  show iprop(StableHlo.held (c.tc : Thread nD τ) (Pipeline.arrRefs (τ := τ) spec0) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c : Thread nD τ) arrs_sub]
  unfold Yk R' owesX
  iintro ⟨Ha, -, ⟨Hh, -⟩, Hb, HO⟩
  isplitl [Ha Hh]; · isplitl [Ha] <;> iassumption
  isplitl [Hb] <;> iassumption

def segs : List (Pipeline.Seg (pcfgs (F := F)) adm (pdats m) () defs₀ 𝒱₀ L lv) :=
  [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

end Cert.KernelIdealProof

end
-- ==== Proof.KernelIdealLaunch.lean ====
/-
  The launch of all four devices, and the run of the whole program.
-/
module

public import proofs.«01_k».proof.Proof.KernelIdealSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by decide
theorem osem_ne_bar : ∀ k : Bool × Tix, osem k ≠ .reg barS := by decide

def barEmb : Dev nD ↪ GSem nD τ sig := ⟨fun c => barCell c, fun _ _ h => congrArg (fun g : GSem nD τ sig => g.1.1) h⟩
def ownEmb : Dev nD × (Bool × Tix) ↪ GSem nD τ sig :=
  ⟨fun ck => xCell ck.1 ck.2.1 ck.2.2, fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

/-- One device's duties: both units of its barrier, one for each cell of a transfer. -/
abbrev duty : Bool ⊕ (Bool × Tix) → SemLoc sig × Bool
  | .inl d => (.reg barS, d)
  | .inr k => (osem k, false)
theorem duty_inj : Function.Injective duty := by decide

def toks : Finset (GSem nD τ sig × ℕ × Bool) :=
  Finset.univ.map ⟨fun ck : Dev nD × (Bool ⊕ (Bool × Tix)) => (((ck.1 : Thread nD τ), (duty ck.2).1), 0, (duty ck.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

theorem cells_apart : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem cell_mem : ∀ p : CIx, cellAt p ∈ (barCells ∪ ownCells : Finset (GSem nD τ sig))
  | (c, none) => Finset.mem_union_left _ (Finset.mem_map_of_mem barEmb (Finset.mem_univ c))
  | (c, some k) => Finset.mem_union_right _ (Finset.mem_map_of_mem ownEmb (Finset.mem_univ (c, k)))

def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's launch element, kept at device 0 until every device's part is dealt. -/
def G (c : Dev nD) : sProp 𝕄 := if c = 0 then BI.own (ER (launchOf barCells ownCells toks)) else iprop(emp)
theorem bigSep_G : bigSep Finset.univ (G (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What the launch deals to each device -/

/-- The two facts every device may consult. -/
def shared (κ : GSem nD τ sig → ℕ) : sProp 𝕄 :=
  iprop((bigSep (barCells ∪ ownCells) fun g => cellInv ER (Rd (XX m)) (κ g) g) ∗ bigSep barCells fun g => reached ER g 0)

instance shared_persistent (κ : GSem nD τ sig → ℕ) : BI.Persistent (shared m κ) := by unfold shared; infer_instance

theorem records_of (κ : GSem nD τ sig → ℕ) : shared m κ ⊢ records (XX m) (fun p => κ (cellAt p)) := by
  unfold shared records
  iintro ⟨#HI, -⟩
  iapply (bigSep_with_persistent (S := (Finset.univ : Finset CIx)) (R := bigSep (barCells ∪ ownCells) fun g => (cellInv ER (Rd (XX m)) (κ g) g : sProp 𝕄))
    (Φ := fun _ => (BI.emp : sProp 𝕄)) fun p _ => sep_elim_left.trans (bigSep_elim (cell_mem p)))
  isplitr; · iexact HI
  rw [BI.bigSep_emp_const]; iempintro

theorem reached_bar (κ : GSem nD τ sig → ℕ) (c : Dev nD) : shared m κ ⊢ reached ER (barCell c) 0 := by
  unfold shared
  exact sep_elim_right.trans (bigSep_elim (Φ := fun g => (reached ER g 0 : sProp 𝕄)) (Finset.mem_map_of_mem barEmb (Finset.mem_univ c)))

/-- The tokens of the duties a device pays. -/
def pays (c : Dev nD) : sProp 𝕄 :=
  iprop((dutyTok ER (barCell (nxt c)) 0 false ∗ dutyTok ER (barCell (prv c)) 0 true)
    ∗ (bigSep Finset.univ fun x : Tix => dutyTok ER (xCell c false x) 0 false)
    ∗ (bigSep Finset.univ fun x : Tix => dutyTok ER (xCell (nxt c) true x) 0 false))

def linear (c : Dev nD) : sProp 𝕄 :=
  iprop(atPos ER (barCell c) 0 ∅ 0
    ∗ ((bigSep Finset.univ fun x : Tix => openTok ER (xCell c false x)) ∗ (bigSep Finset.univ fun x : Tix => openTok ER (xCell c true x)))
    ∗ pays c)

/-- The credits of what a device waits for. -/
def dues (c : Dev nD) : sProp 𝕄 :=
  iprop(cred (tallyAt (barCell c) () 2) ∗ (bigSep Finset.univ fun x : Tix => cred (tallyAt (xCell c true x) () N)))

theorem Tk_intro (κ : GSem nD τ sig → ℕ) (c : Dev nD) : iprop(shared m κ ∗ (linear c ∗ dues c)) ⊢ Tk m c := by
  unfold linear pays dues Tk meet dormant
  iintro ⟨#HS, ⟨Hat, ⟨Ho1, Ho2⟩, ⟨Htf, Htt⟩, Ht1, Ht2⟩, Hcb, Hcx⟩
  isplitr; · iexists (fun p => κ (cellAt p)); iapply (records_of m κ); iexact HS
  isplitl [Hat Htf Htt Hcb]
  · isplitl [Hat]; · iexact Hat
    isplitl [Hcb]; · iexact Hcb
    isplitr
    · isplitr; · iapply (reached_bar m κ (prv c)); iexact HS
      iapply (reached_bar m κ (nxt c)); iexact HS
    isplitl [Htt]; · iexact Htt
    iexact Htf
  iapply Smoke.bigSep_pair
  isplitl [Ho1 Ho2]; · iapply Smoke.bigSep_pair; isplitl [Ho1] <;> iassumption
  iapply Smoke.bigSep_pair
  isplitl [Ht1 Ht2]; · iapply Smoke.bigSep_pair; isplitl [Ht1] <;> iassumption
  iexact Hcx

/-- The tokens by the device whose cell they are of. -/
def held (c : Dev nD) : sProp 𝕄 :=
  iprop((dutyTok ER (barCell c) 0 false ∗ dutyTok ER (barCell c) 0 true)
    ∗ (bigSep Finset.univ fun x : Tix => dutyTok ER (xCell c false x) 0 false)
    ∗ (bigSep Finset.univ fun x : Tix => dutyTok ER (xCell c true x) 0 false))

theorem both (Φ : Bool → sProp 𝕄) : bigSep Finset.univ Φ = iprop(Φ false ∗ Φ true) :=
  bigSep_univ_eq_bigSepL [false, true] (by decide) (by decide) Φ

theorem toks_eq : bigSep toks (fun x => (dutyTok ER x.1 x.2.1 x.2.2 : sProp 𝕄)) = bigSep Finset.univ fun c : Dev nD => held c := by
  unfold toks; rw [bigSep_map, bigSep_univ_prod]
  refine bigSep_congr fun c _ => ?_
  unfold held
  rw [bigSep_univ_sum, both]
  refine congrArg _ (twelve fun k : Bool × Tix => (dutyTok ER (xCell c k.1 k.2) 0 false : sProp 𝕄))

theorem toks_around : (bigSep Finset.univ fun c : Dev nD => (held c : sProp 𝕄)) ⊢ bigSep Finset.univ fun c : Dev nD => pays c := by
  unfold held pays
  rw [bigSep_sep', bigSep_sep', bigSep_sep', bigSep_sep', bigSep_sep', bigSep_sep',
    bigSep_univ_equiv ring (fun c : Dev nD => (dutyTok ER (barCell c) 0 false : sProp 𝕄)),
    bigSep_univ_equiv ringBack (fun c : Dev nD => (dutyTok ER (barCell c) 0 true : sProp 𝕄)),
    bigSep_univ_equiv ring (fun c : Dev nD => (bigSep Finset.univ fun x : Tix => dutyTok ER (xCell c true x) 0 false : sProp 𝕄))]
  exact BI.Entails.refl _

/-! ## The credits at launch -/

theorem dev_of {g g' : GSem nD τ sig} (h : g = g') : g.1.1 = g'.1.1 := congrArg (fun g : GSem nD τ sig => g.1.1) h

theorem from_bar (l : List Tix) (d c : Dev nD) : owedFrom l d (barCell c) () = 0 :=
  Nat.eq_zero_of_not_pos fun h => by
    obtain ⟨x, -, hx⟩ := owedFrom_pos h
    exact osem_ne_bar (true, x) (congrArg Prod.snd hx).symm

theorem tally_bar (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg (fun h' => h (dev_of h'.1).symm), if_neg h]

theorem owed_bar (d c : Dev nD) : O₀ d (barCell c) () = (if d = prv c then 1 else 0) + (if d = nxt c then 1 else 0) := by
  unfold O₀ O₁
  rw [Pi.add_apply, Finsupp.add_apply, Pi.add_apply, Finsupp.add_apply, from_bar, tally_bar, tally_bar, Nat.zero_add]
  congr 1
  · exact if_congr ⟨fun h => h ▸ (prv_nxt d).symm, fun h => h ▸ nxt_prv c⟩ rfl rfl
  · exact if_congr ⟨fun h => h ▸ (nxt_prv d).symm, fun h => h ▸ prv_nxt c⟩ rfl rfl

theorem tally_recv (d c : Dev nD) (x y : Tix) :
    (tallyAt (xCell d true y) () N : CellTallies nD τ sig Unit) (xCell c true x) () = if d = c ∧ y = x then N else 0 := by
  rw [tallyAt_apply]
  by_cases h : d = c ∧ y = x
  · obtain ⟨rfl, rfl⟩ := h; rw [if_pos ⟨rfl, rfl⟩, if_pos ⟨rfl, rfl⟩]
  · rw [if_neg, if_neg h]
    intro h'
    have hk : (true, x) = (true, y) := osem_inj (congrArg Prod.snd h'.1)
    exact h ⟨(dev_of h'.1).symm, (congrArg Prod.snd hk).symm⟩

theorem from_recv (l : List Tix) (d c : Dev nD) (x : Tix) :
    owedFrom l d (xCell c true x) () = if d = prv c then N * l.count x else 0 := by
  induction l with
  | nil => rw [owedFrom_nil, List.count_nil, Nat.mul_zero, ite_self]; rfl
  | cons y l ih =>
    rw [owedFrom_cons, Pi.add_apply, Finsupp.add_apply, ih, tally_recv, List.count_cons]
    by_cases h : d = prv c
    · subst h
      rw [nxt_prv, if_pos rfl, if_pos rfl]
      by_cases hy : y = x
      · subst hy; rw [if_pos ⟨rfl, rfl⟩, beq_self_eq_true, if_pos rfl, Nat.mul_add, Nat.mul_one]
      · rw [if_neg (fun h' => hy h'.2), if_neg (fun h' => hy (eq_of_beq h'))]; rfl
    · rw [if_neg h, if_neg h, if_neg (fun h' : nxt d = c ∧ y = x => h (h'.1 ▸ (prv_nxt d).symm))]

theorem order_count : ∀ x : Tix, order.count x = 1 := by decide

theorem owed_recv (d c : Dev nD) (x : Tix) : O₀ d (xCell c true x) () = if d = prv c then N else 0 := by
  unfold O₀ O₁
  rw [Pi.add_apply, Finsupp.add_apply, Pi.add_apply, Finsupp.add_apply, from_recv, order_count, Nat.mul_one,
    tallyAt_ne_cell (fun h => osem_ne_bar (true, x) (congrArg Prod.snd h)), tallyAt_ne_cell (fun h => osem_ne_bar (true, x) (congrArg Prod.snd h))]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1,
    if_pos (Finset.mem_univ _), if_pos (Finset.mem_univ _)]

theorem launch_recv (c : Dev nD) (x : Tix) :
    tallyOn (xCell c true x) (launchCredit (Pipeline.owing O₀) 0 (xCell c true x)) = (tallyAt (xCell c true x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (prv c) fun _ => N, if_pos (Finset.mem_univ _)]

def recvEmb : Tix ↪ SemLoc sig := ⟨fun x => osem (true, x), fun _ _ h => congrArg Prod.snd (osem_inj h)⟩

theorem dues_intro (c : Dev nD) : (Pipeline.launchCred O₀ c : sProp 𝕄) ⊢ dues c := by
  unfold Pipeline.launchCred dues
  rw [bigSep_univ_at _ (SemLoc.reg barS), launch_bar]
  refine sep_mono_right ?_
  have hs : (Finset.univ.map recvEmb : Finset (SemLoc sig)) ⊆ Finset.univ.erase (SemLoc.reg barS) := fun s hs => by
    obtain ⟨x, -, rfl⟩ := Finset.mem_map.mp hs
    exact Finset.mem_erase.mpr ⟨osem_ne_bar (true, x), Finset.mem_univ _⟩
  have he : (bigSep (Finset.univ.map recvEmb) fun sm : SemLoc sig =>
        cred (tallyOn ((c : Thread nD τ), sm) (launchCredit (Pipeline.owing O₀) 0 ((c : Thread nD τ), sm))) : sProp 𝕄)
      = bigSep Finset.univ fun x : Tix => cred (tallyAt (xCell c true x) () N) := by
    rw [bigSep_map]
    exact bigSep_congr fun x _ => congrArg _ (launch_recv c x)
  rw [← he]
  exact BI.bigSep_subset hs

/-! ## Every device's start -/

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₃ m c) ∗ semVal (barCell c) 0)

def bundle (c : Dev nD) : sProp 𝕄 :=
  iprop(StableHlo.held (c : Thread nD τ) (Pipeline.ucRefs τ sig) (V₀ m c) ∗ dues c ∗ owes (c : Thread nD τ) (O₀ c) ∅ ∗ ∃ r, prngReg c r)

theorem T₀_intro (κ : GSem nD τ sig → ℕ) (c : Dev nD) : iprop(shared m κ ∗ (linear c ∗ bundle m c)) ⊢ T₀ m c := by
  unfold bundle T₀ R owesX
  iintro ⟨#HR, Hl, Hh, Hd, HO, Hp⟩
  isplitl [Hh]; · iexact Hh
  isplitr [HO]
  · isplitr [Hp]
    · iapply (Tk_intro m κ c)
      isplitr; · iexact HR
      isplitl [Hl] <;> iassumption
    iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V₀ m c)
    from Pipeline.unscopedBufs_held c (V₀ m c), unscopedSems0_eq]
  unfold bundle
  iintro ⟨Hh, Hus, HO, Hcr, Hp, HG⟩
  ihave Hd := (dues_intro (F := F) c) $$ Hcr
  isplitl [Hh Hd HO Hp]
  · isplitl [Hh]; · iexact Hh
    isplitl [Hd]; · iexact Hd
    isplitl [HO]; · iexact HO
    iexists (ρ c); iexact Hp
  isplitl [Hus] <;> iassumption

theorem vals_bar : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem pos_bar : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem opens : bigSep ownCells (fun g => (openTok ER g : sProp 𝕄))
    ⊢ bigSep Finset.univ (fun c : Dev nD => iprop((bigSep Finset.univ fun x : Tix => openTok ER (xCell c false x))
        ∗ (bigSep Finset.univ fun x : Tix => openTok ER (xCell c true x)))) :=
  Entails.of_eq (by
    rw [bigSep_map, bigSep_univ_prod]
    exact bigSep_congr fun c _ => twelve fun k : Bool × Tix => (openTok ER (xCell c k.1 k.2) : sProp 𝕄))

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core m ρ c) $$ H
  ihave H2 := Smoke.bigSep_unpair $$ H'; icases H2 with ⟨HB, H3⟩
  ihave H4 := Smoke.bigSep_unpair $$ H3; icases H4 with ⟨Hv, HG⟩
  ihave Hu := (Entails.of_eq (bigSep_G (F := F))) $$ HG
  imod (Rounds.fund_launch ER (Rd (XX m)) cells_apart (fun g _ h => h) toks) $$ [Hv Hu] with ⟨%κ, -, #Hinv, #Hr, Hat, Hopen, Htok⟩
  · isplitl [Hv]
    · iapply vals_bar $$ Hv
    · iexact Hu
  imodintro
  iapply (bigSep_with_persistent (R := shared m κ) (Φ := fun c => iprop(linear c ∗ bundle m c)) fun c _ => T₀_intro m κ c)
  isplitr
  · unfold shared
    isplitr; · iexact Hinv
    iexact Hr
  iapply Smoke.bigSep_pair
  isplitr [HB]
  · unfold linear
    iapply Smoke.bigSep_pair; isplitl [Hat]; · iapply pos_bar $$ Hat
    iapply Smoke.bigSep_pair; isplitl [Hopen]; · iapply opens $$ Hopen
    iapply (toks_around (F := F))
    iapply (Entails.of_eq (toks_eq (F := F))) $$ Htok
  · iexact HB

/-! ## The run -/

/-- No operation of the program writes an argument. -/
theorem V₁_arg (c : Dev nD) (b : Ref sig .tc) (h : b = main_arg0 ∨ b = main_arg1 ∨ b = main_arg2) :
    V₁ m c (Proc.devRef .tc b) = m ((c : Thread nD τ).loc b) := by
  rcases h with rfl | rfl | rfl
  · exact V_main_arg0 m c
  · exact V_main_arg1 m c
  · exact V_main_arg2 m c

theorem V₃_keeps (c : Dev nD) (b : Ref sig .tc) (h10 : b ≠ main_v10) : V₃ m c (Proc.devRef .tc b) = V₂ m c (Proc.devRef .tc b) := by
  show StableHlo.after hostOps1 (V₂ m c) (Proc.devRef .tc b) = _
  rw [StableHlo.after_cons, StableHlo.after_nil, StableHlo.unary_result_ne main_v9 main_v10 _ _ _ _ h10]

theorem V₃_arg (c : Dev nD) (b : Ref sig .tc) (h : b = main_arg0 ∨ b = main_arg1 ∨ b = main_arg2) :
    V₃ m c (Proc.devRef .tc b) = m ((c : Thread nD τ).loc b) := by
  have h10 : b ≠ main_v10 := by rcases h with rfl | rfl | rfl <;> decide
  have h9 : b ≠ main_v9 := by rcases h with rfl | rfl | rfl <;> decide
  rw [V₃_keeps m c b h10, V₂_ne m c _ (StableHlo.devRef_ne_of_ne h9), V₁_arg m c b h]

/-- The program's result on device `c`. -/
def out (c : Dev nD) : S2x256x8x64.Idx → Elt F .f32 :=
  transpose S2x256x8x64 [0, 2, 1, 3] (res m c) transposes_S2x8x256x64_S2x256x8x64_0_2_1_3

theorem V₃_out (c : Dev nD) : V₃ m c (Proc.devRef .tc main_v10) = out m c := by
  show StableHlo.after hostOps1 (V₂ m c) (Proc.devRef .tc main_v10) = _
  rw [StableHlo.after_cons, StableHlo.after_nil, StableHlo.unary_result, V₂_v9]
  rfl

theorem unscoped_eq : ∀ sm : SemLoc sig, sm.isScoped .tc = false → sm = .reg barS := by decide

/-- The arguments and the result. -/
abbrev shown : Finset (DevRef τ sig) :=
  {Proc.devRef .tc main_arg0, Proc.devRef .tc main_arg1, Proc.devRef .tc main_arg2, Proc.devRef .tc main_v10}
theorem shown_sub : shown ⊆ Pipeline.ucRefs τ sig := by decide

theorem shown_eq (c : Dev nD) (W : Valuation τ sig (Elt F)) : (StableHlo.held (c : Thread nD τ) shown W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v10) ↦{fullShare} W (Proc.devRef .tc main_v10))) := by
  unfold StableHlo.held
  rw [bigSep_eq_bigSepL_of_eq [Proc.devRef .tc main_arg0, Proc.devRef .tc main_arg1, Proc.devRef .tc main_arg2, Proc.devRef .tc main_v10]
    (by decide) (by decide)]
  rfl

set_option backward.isDefEq.respectTransparency.types false in
/-- From any memory whose counters are zero, every fair execution on the four devices ends: on each device the result is
    `out m c`, the arguments are as they were, and every counter of the machine is zero. -/
theorem run_main : θ_run defs (onTc (τ := τ) (main (F := F))) ⟨m, fun _ => 0, ρ⟩
    (fun r => (∀ c : Dev nD, r.2.mem ((c : Thread nD τ).loc main_v10) = out m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (V₃ m c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_v10) = V₃ m c (Proc.devRef .tc main_v10)) ∧ s.sem (barCell c) = 0)
    (hfin := fun c s' => by
      dsimp only [Tₙ]; rw [StableHlo.held_sub_split (c : Thread nD τ) shown_sub, shown_eq]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩,
          by simpa using hb⟩
      iexact HSI)
    (hQ := fun s h hs => ⟨fun c => by
        obtain ⟨⟨h0, h1, h2, h3⟩, -⟩ := h c
        exact ⟨h3.trans (V₃_out m c), h0.trans (V₃_arg m c _ (.inl rfl)), h1.trans (V₃_arg m c _ (.inr (.inl rfl))),
          h2.trans (V₃_arg m c _ (.inr (.inr rfl)))⟩,
      sem_eq_zero hs fun c sm hsm => by
        obtain rfl := unscoped_eq sm hsm
        exact (h c).2⟩)

end Cert.KernelIdealProof

end
-- ==== Proof.KernelIdealValue.lean ====
/-
  The kernel's result over the extended reals: on each device the attention of its queries over the keys and values of
  all four devices, which is its block of the reference's result.
-/
module

public import proofs.«01_k».proof.Defs
public import proofs.«01_k».proof.Proof.Attention
public import proofs.«01_k».proof.Proof.KernelIdealLaunch

@[expose] public section

noncomputable section

namespace Cert.KernelIdealProof

open Cert.KernelIdeal Cert.KernelIdeal.Gen Cert.Attention
open Idealize.ShloMosaic Idealize.ShloMosaic.TcCoe Idealize.SL.Sem

variable (m : (ℓ : Loc nD τ sig) → Buf (Elt Ideal) ℓ)

/-! ## What the launch finds in the kernel's arguments -/

/-- The queries, keys and values of device `c`. -/
abbrev inQ (c : Dev nD) : FVec Ideal S2x256x8x64 .f32 := m ((c.tc : Thread nD τ).loc main_arg0)
abbrev inK (c : Dev nD) : FVec Ideal S2x256x8x64 .f32 := m ((c.tc : Thread nD τ).loc main_arg1)
abbrev inV (c : Dev nD) : FVec Ideal S2x256x8x64 .f32 := m ((c.tc : Thread nD τ).loc main_arg2)

/-- The queries: transposed and scaled. -/
theorem qf_apply (c : Dev nD) (b : Fin 2) (h : Fin 8) (r : Fin 256) (e : Fin 64) :
    qf m c (ix4 b h r e) = (inQ m c) (ix4 b r h e) * scale := by
  have e0 : qf m c = truncf (F := Ideal) .bf16 (mulf (transpose S2x8x256x64 [0, 2, 1, 3] (inQ m c)
        transposes_S2x256x8x64_S2x8x256x64_0_2_1_3)
      (broadcastInDim S2x8x256x64 ![] bcast_S_S2x8x256x64 (constant S_ .f32 0x3E000000#32))) bitsLt_bf16_f32 := by
    unfold qf V₁ V₀
    after_results
  rw [e0]
  pointwise
  rfl

/-- The keys: transposed. -/
theorem kf_apply (c : Dev nD) (b : Fin 2) (h : Fin 8) (r : Fin 256) (e : Fin 64) :
    kf m c (ix4 b h r e) = (inK m c) (ix4 b r h e) := by
  have e0 : kf m c = truncf (F := Ideal) .bf16 (transpose S2x8x256x64 [0, 2, 1, 3] (inK m c)
        transposes_S2x256x8x64_S2x8x256x64_0_2_1_3) bitsLt_bf16_f32 := by
    unfold kf V₁ V₀
    after_results
  rw [e0]
  pointwise

/-- The values: transposed. -/
theorem vf_apply (c : Dev nD) (b : Fin 2) (h : Fin 8) (r : Fin 256) (e : Fin 64) :
    vf m c (ix4 b h r e) = (inV m c) (ix4 b r h e) := by
  have e0 : vf m c = truncf (F := Ideal) .bf16 (transpose S2x8x256x64 [0, 2, 1, 3] (inV m c)
        transposes_S2x256x8x64_S2x8x256x64_0_2_1_3) bitsLt_bf16_f32 := by
    unfold vf V₁ V₀
    after_results
  rw [e0]
  pointwise

/-! ## What is gathered -/

theorem inOne_ix4 (b : Fin 2) (h : Fin 8) (r : Fin 256) (e : Fin 64) : inOne (ix4 b h r e) = (ix5 0 b h r e : S1x2x8x256x64.Idx) := by
  funext a
  fin_cases a <;> rfl

theorem keys_apply (z : Fin 4) (b : Fin 2) (h : Fin 8) (r : Fin 256) (e : Fin 64) :
    gath (XX m) false (ix5 z b h r e) = kf m z (ix4 b h r e) := by
  have e0 : offSlot (ix5 z b h r e) = (ix4 b h r e : S2x8x256x64.Idx) := by funext a; fin_cases a <;> rfl
  show k0_pay3 (kf m z) (inOne (offSlot (ix5 z b h r e))) = _
  rw [e0, inOne_ix4]
  pointwise [k0_pay3]

theorem values_apply (z : Fin 4) (b : Fin 2) (h : Fin 8) (r : Fin 256) (e : Fin 64) :
    gath (XX m) true (ix5 z b h r e) = vf m z (ix4 b h r e) := by
  have e0 : offSlot (ix5 z b h r e) = (ix4 b h r e : S2x8x256x64.Idx) := by funext a; fin_cases a <;> rfl
  show k0_pay5 (k0_pay4 (vf m z)) (inOne (offSlot (ix5 z b h r e))) = _
  rw [e0, inOne_ix4]
  pointwise [k0_pay5, k0_pay4]

/-- The result on device `c`, by coordinates. -/
theorem out_apply (c : Dev nD) (b : Fin 2) (r : Fin 256) (h : Fin 8) (d : Fin 64) :
    out m c (ix4 b r h d)
      = soft (fun t => ∑ e : Fin 64, qf m c (ix4 b h r e) * kf m (keyBlock t) (ix4 b h (keyRow t) e))
          (fun t => vf m (keyBlock t) (ix4 b h (keyRow t) d)) := by
  have e0 : out m c (ix4 b r h d) = k0_pay1 (row4 (qf m c) b h) (row5 (gath (XX m) false) b h) (row5 (gath (XX m) true) b h) (ix4 0 0 r d) := by
    unfold out
    pointwise
    rfl
  rw [e0, pay_apply]
  congr 1
  · funext t
    refine Finset.sum_congr rfl fun e _ => ?_
    exact congrArg (qf m c (ix4 b h r e) * ·) (keys_apply m (keyBlock t) b h (keyRow t) e)
  · funext t
    exact values_apply m (keyBlock t) b h (keyRow t) d

/-! ## The equation -/

/-- Where query `r` of device `c` is in the whole array. -/
def rowOf (c : Fin 4) (r : Fin 256) : Fin 1024 := ⟨c.val * 256 + r.val, by omega⟩

/-- Block `c` of a whole array, by coordinates. -/
theorem block_ix4 (c : Fin 4) (v : Cert.ReferenceIdeal.S2x1024x8x64.Idx → EReal) (b : Fin 2) (r : Fin 256) (h : Fin 8) (e : Fin 64) :
    Layout.block ⟨4, ![2, 256, 8, 64]⟩ ⟨4, ![2, 1024, 8, 64]⟩ 1 4 c v (by decide) (ix4 b r h e) = v (ix4 b (rowOf c r) h e) := by
  rw [Layout.block_apply]
  congr 1
  funext a
  fin_cases a <;> rfl

theorem rowOf_key (t : Fin 1024) : rowOf (keyBlock t) (keyRow t) = t := by
  refine Fin.ext ?_
  show t.val / 256 * 256 + t.val % 256 = t.val
  omega

/-- Each device's result is its block of the reference's. -/
theorem out_eq (q k v : FVec Ideal Cert.ReferenceIdeal.S2x1024x8x64 .f32)
    (hq : ∀ c : Dev nD, m ((c.tc : Thread nD τ).loc main_arg0) = Layout.block ⟨4, ![2, 256, 8, 64]⟩ ⟨4, ![2, 1024, 8, 64]⟩ 1 4 c q)
    (hk : ∀ c : Dev nD, m ((c.tc : Thread nD τ).loc main_arg1) = Layout.block ⟨4, ![2, 256, 8, 64]⟩ ⟨4, ![2, 1024, 8, 64]⟩ 1 4 c k)
    (hv : ∀ c : Dev nD, m ((c.tc : Thread nD τ).loc main_arg2) = Layout.block ⟨4, ![2, 256, 8, 64]⟩ ⟨4, ![2, 1024, 8, 64]⟩ 1 4 c v)
    (c : Dev nD) :
    out m c = Layout.block ⟨4, ![2, 256, 8, 64]⟩ ⟨4, ![2, 1024, 8, 64]⟩ 1 4 c (Cert.ReferenceIdeal.ref q k v) := by
  funext i
  obtain ⟨b, r, h, d, rfl⟩ : ∃ (b : Fin 2) (r : Fin 256) (h : Fin 8) (d : Fin 64), i = ix4 b r h d := ⟨i 0, i 1, i 2, i 3, eq_ix4 i⟩
  have q' : ∀ e, qf m c (ix4 b h r e) = q (ix4 b (rowOf c r) h e) * scale := fun e =>
    (qf_apply m c b h r e).trans (congrArg (· * scale) ((congrFun (hq c) _).trans (block_ix4 c q b r h e)))
  have k' : ∀ t e, kf m (keyBlock t) (ix4 b h (keyRow t) e) = k (ix4 b t h e) := fun t e =>
    ((kf_apply m (keyBlock t) b h (keyRow t) e).trans ((congrFun (hk (keyBlock t)) _).trans
      (block_ix4 (keyBlock t) k b (keyRow t) h e))).trans (by rw [rowOf_key])
  have v' : ∀ t, vf m (keyBlock t) (ix4 b h (keyRow t) d) = v (ix4 b t h d) := fun t =>
    ((vf_apply m (keyBlock t) b h (keyRow t) d).trans ((congrFun (hv (keyBlock t)) _).trans
      (block_ix4 (keyBlock t) v b (keyRow t) h d))).trans (by rw [rowOf_key])
  refine (out_apply m c b r h d).trans ?_
  refine Eq.trans ?_ ((block_ix4 c _ b r h d).trans (Cert.ReferenceIdeal.ref_apply q k v b (rowOf c r) h d)).symm
  congr 1
  · funext t
    rw [← sum_scaled scale scale_nonneg scale_ne_top]
    exact Finset.sum_congr rfl fun e _ => by rw [q' e, k' t e]
  · funext t
    exact v' t

end Cert.KernelIdealProof

end
-- ==== Proof.lean ====
/-
  The certificate of the ring attention on four devices: the frames of the three programs, the idealization, and the
  equation of each device's result with its block of the reference's. The work is in the modules imported; this file puts
  their theorems together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, keeps its arguments and leaves every counter at zero. -/
theorem frame_kernel : Cert.quiescent_Kernel := fun m g _ =>
  (θ_run _ _ _).mono (fun _ h => ⟨fun c => (h.1 c).2, h.2⟩) (Cert.KernelProof.run_main (F := Bits) m g)

/-- So does the kernel read over the extended reals. -/
theorem frame_kernelIdeal : Cert.quiescent_KernelIdeal := fun m g _ =>
  (θ_run _ _ _).mono (fun _ h => ⟨fun c => (h.1 c).2, h.2⟩) (Cert.KernelIdealProof.run_main (F := Ideal) m g)

/-- And the reference, which has no counters at all. -/
theorem frame_referenceIdeal : Cert.quiescent_ReferenceIdeal := fun m g _ =>
  (θ_run _ _ _).mono (fun _ h => ⟨fun c => (h c).2, Idealize.ShloMosaic.sem_eq_zero_of_no_sems (by decide) _⟩) (Cert.ReferenceIdeal.Value.run (F := Ideal) m g)

/-- Each device's result is its block of the reference's. -/
theorem value : Cert.algebraic_KernelIdeal_ReferenceIdeal := by
  intro m g m' g' _ hargs
  refine ⟨Cert.ReferenceIdeal.ref
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run _ _ _).mono (fun _ h c => ⟨(h.1 c).1.trans ?_, (h.1 c).2⟩) (Cert.KernelIdealProof.run_main (F := Ideal) m g)
    exact Cert.KernelIdealProof.out_eq m _ _ _ (fun c => (hargs c).1) (fun c => (hargs c).2.1) (fun c => (hargs c).2.2) c
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
